-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_split_pool [hPre_split_pool : Cert.Pre_split_pool.Facts] (m : (ℓ : Loc Cert.KernelIdeal.nD Cert.KernelIdeal.τ Cert.KernelIdeal.sig) → Buf (Elt Ideal) ℓ) : Prop :=
  ∀ c : Dev Cert.KernelIdeal.nD,
    (Cert.Pre_split_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_split_pool [hPre_split_pool : Cert.Pre_split_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_split_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_split_pool [hKernelIdeal : Cert.KernelIdeal.Facts] [hPre_split_pool : Cert.Pre_split_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_split_pool m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_split_pool [hReferenceIdeal : Cert.ReferenceIdeal.Facts] [hPre_split_pool : Cert.Pre_split_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_split_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_split_pool [hKernelIdeal : Cert.KernelIdeal.Facts] [hReferenceIdeal : Cert.ReferenceIdeal.Facts] [hPre_split_pool : Cert.Pre_split_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_split_pool m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_split_pool : Cert.Pre_split_pool.Facts),
    quiescent_Kernel (hKernel := hKernel)
    ∧ quiescent_KernelIdeal (hKernelIdeal := hKernelIdeal)
    ∧ quiescent_KernelIdeal_pre_split_pool (hKernelIdeal := hKernelIdeal) (hPre_split_pool := hPre_split_pool)
    ∧ quiescent_ReferenceIdeal (hReferenceIdeal := hReferenceIdeal)
    ∧ quiescent_ReferenceIdeal_pre_split_pool (hReferenceIdeal := hReferenceIdeal) (hPre_split_pool := hPre_split_pool)
    ∧ preserves_Kernel_KernelIdeal
    ∧ algebraic_KernelIdeal_ReferenceIdeal_pre_split_pool (hKernelIdeal := hKernelIdeal) (hReferenceIdeal := hReferenceIdeal) (hPre_split_pool := hPre_split_pool)
-- ==== Pre_split_pool.lean ====
abbrev S8x2048x1 : Shape := ⟨3, ![8, 2048, 1]⟩
abbrev S8x1024x1 : Shape := ⟨3, ![8, 1024, 1]⟩
abbrev S_ : Shape := ⟨0, ![]⟩
abbrev S1 : Shape := ⟨1, ![1]⟩

class Facts : Prop where
  concatenates_S8x1024x1_S8x1024x1_S8x2048x1_d1 : Shape.Concatenates [S8x1024x1, S8x1024x1] S8x2048x1 1
  bcast_S_S8x2048x1 : S_.BroadcastsInDim S8x2048x1 (![] : Fin 0 → Fin S8x2048x1.rank)

variable [Facts]

def fn {F : FTy → Type} [FloatOps F] (main_arg0 : FVec F S8x2048x1 .f32) (main_arg1 : FVec F S8x2048x1 .f32) (main_arg2 : FVec F S8x1024x1 .f32) (main_arg3 : FVec F S8x1024x1 .f32) (main_arg4 : FVec F S8x1024x1 .f32) (main_arg5 : FVec F S8x1024x1 .f32) (main_arg6 : IVec S_ 32) (main_arg7 : IVec S_ 32) (main_arg8 : IVec S_ 32) (main_arg9 : IVec S_ 1) (main_arg10 : FVec F S1 .f32) (main_arg11 : FVec F S1 .f32) : IVec S8x2048x1 1 :=
  let main_v0 : FVec F S8x2048x1 .f32 := (fun a b => concatenate S8x2048x1 1 [⟨S8x1024x1, a⟩, ⟨S8x1024x1, b⟩] concatenates_S8x1024x1_S8x1024x1_S8x2048x1_d1) main_arg4 main_arg5
  let main_v1 : IVec S8x2048x1 1 := cmpf .oeq main_arg1 main_v0
  let main_v2 : FVec F S8x2048x1 .f32 := (fun a b => concatenate S8x2048x1 1 [⟨S8x1024x1, a⟩, ⟨S8x1024x1, b⟩] concatenates_S8x1024x1_S8x1024x1_S8x2048x1_d1) main_arg2 main_arg3
  let main_v3 : IVec S8x2048x1 1 := cmpf .oeq main_arg0 main_v2
  let main_v4 : IVec S8x2048x1 1 := andi main_v1 main_v3
  let main_v5 : FVec F S8x2048x1 .f32 := Host.absf main_arg1
  let main_cst : FVec F S_ .f32 := constant S_ .f32 0x43FA0000#32
  let main_v6 : FVec F S8x2048x1 .f32 := broadcastInDim S8x2048x1 ![] bcast_S_S8x2048x1 main_cst
  let main_v7 : IVec S8x2048x1 1 := cmpf .olt main_v5 main_v6
  let main_v8 : IVec S8x2048x1 1 := andi main_v4 main_v7
  main_v8
-- ==== Kernel.lean ====
abbrev S8x2048x1 : Shape := ⟨3, ![8, 2048, 1]⟩
abbrev S8x1024x1 : Shape := ⟨3, ![8, 1024, 1]⟩
abbrev S_ : Shape := ⟨0, ![]⟩
abbrev S1 : Shape := ⟨1, ![1]⟩
abbrev S8x4x1x512 : Shape := ⟨4, ![8, 4, 1, 512]⟩
abbrev S8x1x2048 : Shape := ⟨3, ![8, 1, 2048]⟩
abbrev S1x1x1x512 : Shape := ⟨4, ![1, 1, 1, 512]⟩
abbrev S1x1x2048 : Shape := ⟨3, ![1, 1, 2048]⟩
abbrev S1x512 : Shape := ⟨2, ![1, 512]⟩
abbrev S512x1 : Shape := ⟨2, ![512, 1]⟩
abbrev S1x2048 : Shape := ⟨2, ![1, 2048]⟩
abbrev S1x1024 : Shape := ⟨2, ![1, 1024]⟩
abbrev S512x1024 : Shape := ⟨2, ![512, 1024]⟩
abbrev S512 : Shape := ⟨1, ![512]⟩
abbrev S1x1536 : Shape := ⟨2, ![1, 1536]⟩
abbrev S512x1536 : Shape := ⟨2, ![512, 1536]⟩
abbrev S512x512 : Shape := ⟨2, ![512, 512]⟩
abbrev S512x2048 : Shape := ⟨2, ![512, 2048]⟩
abbrev S128x128 : Shape := ⟨2, ![128, 128]⟩
abbrev S1x1 : Shape := ⟨2, ![1, 1]⟩
abbrev S1x128x128 : Shape := ⟨3, ![1, 128, 128]⟩
abbrev S1x1x1 : Shape := ⟨3, ![1, 1, 1]⟩
abbrev S8x2048x2 : Shape := ⟨3, ![8, 2048, 2]⟩

abbrev nBuf : Space → Nat
  | .hbm => 34
  | .vmem => 22
  | .smem => 2
  | _ => 0

abbrev bufTy : (tb : Table) → Fin (tcTables nBuf tb) → BufTy
  | .hbm, ⟨0, _⟩ => ⟨S8x2048x1, .f32⟩
  | .hbm, ⟨1, _⟩ => ⟨S8x2048x1, .f32⟩
  | .hbm, ⟨2, _⟩ => ⟨S8x1024x1, .f32⟩
  | .hbm, ⟨3, _⟩ => ⟨S8x1024x1, .f32⟩
  | .hbm, ⟨4, _⟩ => ⟨S8x1024x1, .f32⟩
  | .hbm, ⟨5, _⟩ => ⟨S8x1024x1, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1, .f32⟩
  | .hbm, ⟨11, _⟩ => ⟨S1, .f32⟩
  | .hbm, ⟨12, _⟩ => ⟨S8x4x1x512, .f32⟩
  | .hbm, ⟨13, _⟩ => ⟨S8x4x1x512, .f32⟩
  | .hbm, ⟨14, _⟩ => ⟨S8x1x2048, .f32⟩
  | .hbm, ⟨15, _⟩ => ⟨S8x1x2048, .f32⟩
  | .hbm, ⟨16, _⟩ => ⟨S8x4x1x512, .f32⟩
  | .hbm, ⟨17, _⟩ => ⟨S8x4x1x512, .f32⟩
  | .hbm, ⟨18, _⟩ => ⟨S8x4x1x512, .f32⟩
  | .hbm, ⟨19, _⟩ => ⟨S8x4x1x512, .f32⟩
  | .hbm, ⟨20, _⟩ => ⟨S8x4x1x512, .f32⟩
  | .hbm, ⟨21, _⟩ => ⟨S8x4x1x512, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S128x128, .f32⟩
  | .hbm, ⟨29, _⟩ => ⟨S1x1, .f32⟩
  | .hbm, ⟨30, _⟩ => ⟨S1x1, .f32⟩
  | .hbm, ⟨31, _⟩ => ⟨S128x128, .f32⟩
  | .hbm, ⟨32, _⟩ => ⟨S8x2048x1, .f32⟩
  | .hbm, ⟨33, _⟩ => ⟨S8x2048x2, .f32⟩
  | .local _ .vmem, ⟨0, _⟩ => ⟨S1x1x1x512, .f32⟩
  | .local _ .vmem, ⟨1, _⟩ => ⟨S1x1x1x512, .f32⟩
  | .local _ .vmem, ⟨2, _⟩ => ⟨S1x1x1x512, .f32⟩
  | .local _ .vmem, ⟨3, _⟩ => ⟨S1x1x1x512, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x1x512, .f32⟩
  | .local _ .vmem, ⟨9, _⟩ => ⟨S1x1x1x512, .f32⟩
  | .local _ .vmem, ⟨10, _⟩ => ⟨S1x1x1x512, .f32⟩
  | .local _ .vmem, ⟨11, _⟩ => ⟨S1x1x1x512, .f32⟩
  | .local _ .vmem, ⟨12, _⟩ => ⟨S1x1x1x512, .f32⟩
  | .local _ .vmem, ⟨13, _⟩ => ⟨S1x1x1x512, .f32⟩
  | .local _ .vmem, ⟨14, _⟩ => ⟨S1x1x1x512, .f32⟩
  | .local _ .vmem, ⟨15, _⟩ => ⟨S1x1x1x512, .f32⟩
  | .local _ .vmem, ⟨16, _⟩ => ⟨S1x1x1x512, .f32⟩
  | .local _ .vmem, ⟨17, _⟩ => ⟨S1x1x1x512, .f32⟩
  | .local _ .vmem, ⟨18, _⟩ => ⟨S1x1x1x512, .f32⟩
  | .local _ .vmem, ⟨19, _⟩ => ⟨S1x1x1x512, .f32⟩
  | .local _ .vmem, ⟨20, _⟩ => ⟨S128x128, .f32⟩
  | .local _ .vmem, ⟨21, _⟩ => ⟨S128x128, .f32⟩
  | .local _ .smem, ⟨0, _⟩ => ⟨S1x1, .f32⟩
  | .local _ .smem, ⟨1, _⟩ => ⟨S1x1, .f32⟩
  | _, _ => ⟨S8x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v4_5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg3_0 : Ref sig .tc := ⟨.vmem, 21, rfl⟩
abbrev cc1_stg1_0 : Ref sig .tc := ⟨.smem, 0, rfl⟩
abbrev cc1_stg2_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem1_0 : DmaSem sig := 21
abbrev cc1_sem2_0 : DmaSem sig := 22
abbrev cc1_sem3_0 : DmaSem sig := 23

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c2_i32 : BitVec 32 := 2#32
  let v5 : BitVec 1 := Scalar.cmpi .slt arg1 c2_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c2_i32_7 : BitVec 32 := 2#32
  let v8 : BitVec 1 := Scalar.cmpi .eq arg1 c2_i32_7
  let v9 : BitVec 32 := Scalar.extui v8
  let c0_i32_8 : BitVec 32 := 0#32
  let v10 : BitVec 1 := Scalar.cmpi .ne v9 c0_i32_8
  v10

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_9 : BitVec 32 := 0#32
  let v13 : BitVec 1 := Scalar.cmpi .ne v12 c0_i32_9
  v13

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := .none

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S8x2048x1 : Shape := ⟨3, ![8, 2048, 1]⟩
abbrev S8x1024x1 : Shape := ⟨3, ![8, 1024, 1]⟩
abbrev S_ : Shape := ⟨0, ![]⟩
abbrev S1 : Shape := ⟨1, ![1]⟩
abbrev S8x1024x1x1 : Shape := ⟨4, ![8, 1024, 1, 1]⟩
abbrev S8x1x1024x1 : Shape := ⟨4, ![8, 1, 1024, 1]⟩
abbrev S8x1024x1024x1 : Shape := ⟨4, ![8, 1024, 1024, 1]⟩
abbrev S8x1024x1024 : Shape := ⟨3, ![8, 1024, 1024]⟩
abbrev S8x1024 : Shape := ⟨2, ![8, 1024]⟩
abbrev S1x1x1 : Shape := ⟨3, ![1, 1, 1]⟩
abbrev S8x1x2048x1 : Shape := ⟨4, ![8, 1, 2048, 1]⟩
abbrev S8x1024x2048x1 : Shape := ⟨4, ![8, 1024, 2048, 1]⟩
abbrev S8x1024x2048 : Shape := ⟨3, ![8, 1024, 2048]⟩
abbrev S2048 : Shape := ⟨1, ![2048]⟩
abbrev S1x2048 : Shape := ⟨2, ![1, 2048]⟩
abbrev S1024 : Shape := ⟨1, ![1024]⟩
abbrev S1024x1 : Shape := ⟨2, ![1024, 1]⟩
abbrev S1024x2048 : Shape := ⟨2, ![1024, 2048]⟩
abbrev S1x1024x2048 : Shape := ⟨3, ![1, 1024, 2048]⟩
abbrev S8x2048x2 : Shape := ⟨3, ![8, 2048, 2]⟩

abbrev nBuf : Space → Nat
  | .hbm => 237
  | .vmem => 0
  | .smem => 0
  | _ => 0

abbrev hbmTy0_0 (i : Nat) : BufTy := match i % 128 with
  | 0 => ⟨S8x2048x1, .f32⟩
  | 1 => ⟨S8x2048x1, .f32⟩
  | 2 => ⟨S8x1024x1, .f32⟩
  | 3 => ⟨S8x1024x1, .f32⟩
  | 4 => ⟨S8x1024x1, .f32⟩
  | 5 => ⟨S8x1024x1, .f32⟩
  | 6 => ⟨S_, .i32⟩
  | 7 => ⟨S_, .i32⟩
  | 8 => ⟨S_, .i32⟩
  | 9 => ⟨S_, .i1⟩
  | 10 => ⟨S1, .f32⟩
  | 11 => ⟨S1, .f32⟩
  | 12 => ⟨S8x1024x1x1, .f32⟩
  | 13 => ⟨S8x1x1024x1, .f32⟩
  | 14 => ⟨S8x1024x1024x1, .f32⟩
  | 15 => ⟨S8x1024x1024x1, .f32⟩
  | 16 => ⟨S8x1024x1024x1, .f32⟩
  | 17 => ⟨S8x1024x1024x1, .f32⟩
  | 18 => ⟨S_, .f32⟩
  | 19 => ⟨S8x1024x1024, .f32⟩
  | 20 => ⟨S8x1024x1024, .f32⟩
  | 21 => ⟨S8x1024x1024, .i32⟩
  | 22 => ⟨S8x1024x1024, .f32⟩
  | 23 => ⟨S8x1024x1024, .i32⟩
  | 24 => ⟨S8x1024x1, .i32⟩
  | 25 => ⟨S8x1024, .i32⟩
  | 26 => ⟨S8x1024x1, .i32⟩
  | 27 => ⟨S_, .i32⟩
  | 28 => ⟨S8x1024x1, .i32⟩
  | 29 => ⟨S8x1024x1, .i1⟩
  | 30 => ⟨S_, .i32⟩
  | 31 => ⟨S8x1024x1, .i32⟩
  | 32 => ⟨S8x1024x1, .i32⟩
  | 33 => ⟨S8x1024x1, .i32⟩
  | 34 => ⟨S1, .i32⟩
  | 35 => ⟨S_, .i32⟩
  | 36 => ⟨S8x1024x1, .i32⟩
  | 37 => ⟨S8x1024x1, .i1⟩
  | 38 => ⟨S1x1x1, .i32⟩
  | 39 => ⟨S8x1024x1, .i32⟩
  | 40 => ⟨S8x1024x1, .i1⟩
  | 41 => ⟨S8x1024x1, .i1⟩
  | 42 => ⟨S_, .i1⟩
  | 43 => ⟨S8x1024, .i1⟩
  | 44 => ⟨S8x1024x1, .f32⟩
  | 45 => ⟨S8x1024x1, .i1⟩
  | 46 => ⟨S_, .f32⟩
  | 47 => ⟨S8x1024x1, .f32⟩
  | 48 => ⟨S8x1024x1, .f32⟩
  | 49 => ⟨S8x1024x1, .i32⟩
  | 50 => ⟨S_, .i32⟩
  | 51 => ⟨S8x1024x1, .i32⟩
  | 52 => ⟨S8x1024x1, .i1⟩
  | 53 => ⟨S_, .i32⟩
  | 54 => ⟨S8x1024x1, .i32⟩
  | 55 => ⟨S8x1024x1, .i32⟩
  | 56 => ⟨S8x1024x1, .i32⟩
  | 57 => ⟨S1, .i32⟩
  | 58 => ⟨S_, .i32⟩
  | 59 => ⟨S8x1024x1, .i32⟩
  | 60 => ⟨S8x1024x1, .i1⟩
  | 61 => ⟨S1x1x1, .i32⟩
  | 62 => ⟨S8x1024x1, .i32⟩
  | 63 => ⟨S8x1024x1, .i1⟩
  | 64 => ⟨S8x1024x1, .i1⟩
  | 65 => ⟨S_, .i1⟩
  | 66 => ⟨S8x1024, .i1⟩
  | 67 => ⟨S8x1024x1, .f32⟩
  | 68 => ⟨S8x1024x1, .i1⟩
  | 69 => ⟨S_, .f32⟩
  | 70 => ⟨S8x1024x1, .f32⟩
  | 71 => ⟨S8x1024x1, .f32⟩
  | 72 => ⟨S8x1024x1, .f32⟩
  | 73 => ⟨S8x1024x1, .f32⟩
  | 74 => ⟨S8x1024x1, .f32⟩
  | 75 => ⟨S_, .f32⟩
  | 76 => ⟨S8x1024, .f32⟩
  | 77 => ⟨S8x1024x1, .f32⟩
  | 78 => ⟨S8x1024x1, .f32⟩
  | 79 => ⟨S_, .f32⟩
  | 80 => ⟨S8x1024x1, .f32⟩
  | 81 => ⟨S8x1024x1, .f32⟩
  | 82 => ⟨S8x1024x1, .f32⟩
  | 83 => ⟨S8x1024x1x1, .f32⟩
  | 84 => ⟨S8x1x2048x1, .f32⟩
  | 85 => ⟨S8x1024x2048x1, .f32⟩
  | 86 => ⟨S8x1024x2048x1, .f32⟩
  | 87 => ⟨S8x1024x2048x1, .f32⟩
  | 88 => ⟨S8x1024x2048x1, .f32⟩
  | 89 => ⟨S_, .f32⟩
  | 90 => ⟨S8x1024x2048, .f32⟩
  | 91 => ⟨S8x1024x2048, .f32⟩
  | 92 => ⟨S2048, .i32⟩
  | 93 => ⟨S1x2048, .i32⟩
  | 94 => ⟨S1024, .i32⟩
  | 95 => ⟨S1024x1, .i32⟩
  | 96 => ⟨S1024x2048, .i32⟩
  | 97 => ⟨S1024x2048, .i32⟩
  | 98 => ⟨S1024x2048, .i32⟩
  | 99 => ⟨S_, .i32⟩
  | 100 => ⟨S1024x2048, .i32⟩
  | 101 => ⟨S1024x2048, .i1⟩
  | 102 => ⟨S1024x2048, .i1⟩
  | 103 => ⟨S1024x2048, .f32⟩
  | 104 => ⟨S_, .f32⟩
  | 105 => ⟨S1024x2048, .f32⟩
  | 106 => ⟨S1024x2048, .f32⟩
  | 107 => ⟨S1x1024x2048, .f32⟩
  | 108 => ⟨S8x1024x2048, .f32⟩
  | 109 => ⟨S8x1024x2048, .f32⟩
  | 110 => ⟨S8x1024x2048, .i32⟩
  | 111 => ⟨S8x1024x2048, .f32⟩
  | 112 => ⟨S8x1024x2048, .i32⟩
  | 113 => ⟨S8x1024x1, .i32⟩
  | 114 => ⟨S8x1024, .i32⟩
  | 115 => ⟨S8x1024x1, .i32⟩
  | 116 => ⟨S_, .i32⟩
  | 117 => ⟨S8x1024x1, .i32⟩
  | 118 => ⟨S8x1024x1, .i1⟩
  | 119 => ⟨S_, .i32⟩
  | 120 => ⟨S8x1024x1, .i32⟩
  | 121 => ⟨S8x1024x1, .i32⟩
  | 122 => ⟨S8x1024x1, .i32⟩
  | 123 => ⟨S1, .i32⟩
  | 124 => ⟨S_, .i32⟩
  | 125 => ⟨S8x1024x1, .i32⟩
  | 126 => ⟨S8x1024x1, .i1⟩
  | 127 => ⟨S1x1x1, .i32⟩
  | _ => ⟨S8x2048x1, .f32⟩

abbrev hbmTy0_1 (i : Nat) : BufTy := match i % 128 with
  | 0 => ⟨S8x1024x1, .i32⟩
  | 1 => ⟨S8x1024x1, .i1⟩
  | 2 => ⟨S8x1024x1, .i1⟩
  | 3 => ⟨S_, .i1⟩
  | 4 => ⟨S8x1024, .i1⟩
  | 5 => ⟨S8x1024x1, .f32⟩
  | 6 => ⟨S8x1024x1, .i1⟩
  | 7 => ⟨S_, .f32⟩
  | 8 => ⟨S8x1024x1, .f32⟩
  | 9 => ⟨S8x1024x1, .f32⟩
  | 10 => ⟨S8x1024x1, .i32⟩
  | 11 => ⟨S_, .i32⟩
  | 12 => ⟨S8x1024x1, .i32⟩
  | 13 => ⟨S8x1024x1, .i1⟩
  | 14 => ⟨S_, .i32⟩
  | 15 => ⟨S8x1024x1, .i32⟩
  | 16 => ⟨S8x1024x1, .i32⟩
  | 17 => ⟨S8x1024x1, .i32⟩
  | 18 => ⟨S1, .i32⟩
  | 19 => ⟨S_, .i32⟩
  | 20 => ⟨S8x1024x1, .i32⟩
  | 21 => ⟨S8x1024x1, .i1⟩
  | 22 => ⟨S1x1x1, .i32⟩
  | 23 => ⟨S8x1024x1, .i32⟩
  | 24 => ⟨S8x1024x1, .i1⟩
  | 25 => ⟨S8x1024x1, .i1⟩
  | 26 => ⟨S_, .i1⟩
  | 27 => ⟨S8x1024, .i1⟩
  | 28 => ⟨S8x1024x1, .f32⟩
  | 29 => ⟨S8x1024x1, .i1⟩
  | 30 => ⟨S_, .f32⟩
  | 31 => ⟨S8x1024x1, .f32⟩
  | 32 => ⟨S8x1024x1, .f32⟩
  | 33 => ⟨S8x1024x1, .f32⟩
  | 34 => ⟨S8x1024x1, .f32⟩
  | 35 => ⟨S8x1024x1, .f32⟩
  | 36 => ⟨S_, .f32⟩
  | 37 => ⟨S8x1024, .f32⟩
  | 38 => ⟨S8x1024x1, .f32⟩
  | 39 => ⟨S8x1024x1, .f32⟩
  | 40 => ⟨S_, .f32⟩
  | 41 => ⟨S8x1024x1, .f32⟩
  | 42 => ⟨S8x1024x1, .f32⟩
  | 43 => ⟨S8x1024x1, .f32⟩
  | 44 => ⟨S8x2048x1, .f32⟩
  | 45 => ⟨S8x2048x1, .f32⟩
  | 46 => ⟨S8x2048x1, .f32⟩
  | 47 => ⟨S8x2048x1, .f32⟩
  | 48 => ⟨S8x2048x1, .f32⟩
  | 49 => ⟨S8x2048x1, .i1⟩
  | 50 => ⟨S_, .f32⟩
  | 51 => ⟨S_, .f32⟩
  | 52 => ⟨S8x2048x1, .f32⟩
  | 53 => ⟨S8x2048x1, .f32⟩
  | 54 => ⟨S8x2048x1, .f32⟩
  | 55 => ⟨S_, .f32⟩
  | 56 => ⟨S8x2048x1, .f32⟩
  | 57 => ⟨S8x2048x1, .i1⟩
  | 58 => ⟨S_, .f32⟩
  | 59 => ⟨S_, .f32⟩
  | 60 => ⟨S8x2048x1, .f32⟩
  | 61 => ⟨S8x2048x1, .f32⟩
  | 62 => ⟨S_, .f32⟩
  | 63 => ⟨S1, .f32⟩
  | 64 => ⟨S1x1x1, .f32⟩
  | 65 => ⟨S_, .f32⟩
  | 66 => ⟨S1x1x1, .f32⟩
  | 67 => ⟨S1x1x1, .f32⟩
  | 68 => ⟨S_, .i32⟩
  | 69 => ⟨S_, .f32⟩
  | 70 => ⟨S1, .f32⟩
  | 71 => ⟨S1x1x1, .f32⟩
  | 72 => ⟨S_, .f32⟩
  | 73 => ⟨S1x1x1, .f32⟩
  | 74 => ⟨S1x1x1, .f32⟩
  | 75 => ⟨S8x2048x1, .f32⟩
  | 76 => ⟨S8x2048x1, .f32⟩
  | 77 => ⟨S8x2048x1, .f32⟩
  | 78 => ⟨S_, .f32⟩
  | 79 => ⟨S_, .f32⟩
  | 80 => ⟨S_, .f32⟩
  | 81 => ⟨S_, .f32⟩
  | 82 => ⟨S1, .f32⟩
  | 83 => ⟨S1x1x1, .f32⟩
  | 84 => ⟨S1x1x1, .f32⟩
  | 85 => ⟨S1x1x1, .f32⟩
  | 86 => ⟨S_, .f32⟩
  | 87 => ⟨S_, .i1⟩
  | 88 => ⟨S_, .f32⟩
  | 89 => ⟨S_, .f32⟩
  | 90 => ⟨S1x1x1, .f32⟩
  | 91 => ⟨S1x1x1, .f32⟩
  | 92 => ⟨S8x2048x1, .f32⟩
  | 93 => ⟨S8x2048x1, .f32⟩
  | 94 => ⟨S1x1x1, .f32⟩
  | 95 => ⟨S8x2048x1, .f32⟩
  | 96 => ⟨S8x2048x1, .f32⟩
  | 97 => ⟨S_, .f32⟩
  | 98 => ⟨S1x1x1, .f32⟩
  | 99 => ⟨S1x1x1, .f32⟩
  | 100 => ⟨S1x1x1, .f32⟩
  | 101 => ⟨S8x2048x1, .f32⟩
  | 102 => ⟨S8x2048x1, .f32⟩
  | 103 => ⟨S1x1x1, .f32⟩
  | 104 => ⟨S8x2048x1, .f32⟩
  | 105 => ⟨S8x2048x1, .f32⟩
  | 106 => ⟨S8x2048x1, .i1⟩
  | 107 => ⟨S8x2048x1, .f32⟩
  | 108 => ⟨S8x2048x2, .f32⟩
  | _ => ⟨S8x2048x1, .f32⟩

abbrev hbmTy (i : Nat) : BufTy := match i / 128 with
  | 0 => hbmTy0_0 i
  | 1 => hbmTy0_1 i
  | _ => ⟨S8x2048x1, .f32⟩

abbrev bufTy : (tb : Table) → Fin (tcTables nBuf tb) → BufTy
  | .hbm, ⟨i, _⟩ => hbmTy i
  | _, _ => ⟨S8x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_call0_v0 : Ref sig .tc := ⟨.hbm, 21, rfl⟩
abbrev main_call0_v1_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_c_2 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_c_3 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v12 : Ref sig .tc := ⟨.hbm, 48, rfl⟩
abbrev main_v13 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_c_1 : Ref sig .tc := ⟨.hbm, 57, rfl⟩
abbrev main_call2_c_2 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_c_3 : Ref sig .tc := ⟨.hbm, 65, rfl⟩
abbrev main_call2_v11 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_cst_0 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_cst_1 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_cst_2 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_c : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_cst_3 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_call3_v0 : Ref sig .tc := ⟨.hbm, 110, rfl⟩
abbrev main_call3_v1_0 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_c_1 : Ref sig .tc := ⟨.hbm, 123, rfl⟩
abbrev main_call4_c_2 : Ref sig .tc := ⟨.hbm, 124, rfl⟩
abbrev main_call4_v5 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_c_3 : Ref sig .tc := ⟨.hbm, 131, rfl⟩
abbrev main_call4_v11 : Ref sig .tc := ⟨.hbm, 132, rfl⟩
abbrev main_call4_v12 : Ref sig .tc := ⟨.hbm, 133, rfl⟩
abbrev main_call4_v13 : Ref sig .tc := ⟨.hbm, 134, rfl⟩
abbrev main_call4_cst : Ref sig .tc := ⟨.hbm, 135, rfl⟩
abbrev main_call4_v14 : Ref sig .tc := ⟨.hbm, 136, rfl⟩
abbrev main_v52 : Ref sig .tc := ⟨.hbm, 137, rfl⟩
abbrev main_v53 : Ref sig .tc := ⟨.hbm, 138, rfl⟩
abbrev main_call5_c : Ref sig .tc := ⟨.hbm, 139, rfl⟩
abbrev main_call5_v0 : Ref sig .tc := ⟨.hbm, 140, rfl⟩
abbrev main_call5_v1 : Ref sig .tc := ⟨.hbm, 141, rfl⟩
abbrev main_call5_c_0 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_call5_c_1 : Ref sig .tc := ⟨.hbm, 146, rfl⟩
abbrev main_call5_c_2 : Ref sig .tc := ⟨.hbm, 147, rfl⟩
abbrev main_call5_v5 : Ref sig .tc := ⟨.hbm, 148, rfl⟩
abbrev main_call5_v6 : Ref sig .tc := ⟨.hbm, 149, rfl⟩
abbrev main_call5_v7 : Ref sig .tc := ⟨.hbm, 150, rfl⟩
abbrev main_call5_v8 : Ref sig .tc := ⟨.hbm, 151, rfl⟩
abbrev main_call5_v9 : Ref sig .tc := ⟨.hbm, 152, rfl⟩
abbrev main_call5_v10 : Ref sig .tc := ⟨.hbm, 153, rfl⟩
abbrev main_call5_c_3 : Ref sig .tc := ⟨.hbm, 154, rfl⟩
abbrev main_call5_v11 : Ref sig .tc := ⟨.hbm, 155, rfl⟩
abbrev main_call5_v12 : Ref sig .tc := ⟨.hbm, 156, rfl⟩
abbrev main_call5_v13 : Ref sig .tc := ⟨.hbm, 157, rfl⟩
abbrev main_call5_cst : Ref sig .tc := ⟨.hbm, 158, rfl⟩
abbrev main_call5_v14 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_v57 : Ref sig .tc := ⟨.hbm, 163, rfl⟩
abbrev main_cst_4 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_cst_5 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_cst_6 : Ref sig .tc := ⟨.hbm, 178, rfl⟩
abbrev main_call6_v0 : Ref sig .tc := ⟨.hbm, 179, rfl⟩
abbrev main_call6_v1 : Ref sig .tc := ⟨.hbm, 180, rfl⟩
abbrev main_v70 : Ref sig .tc := ⟨.hbm, 181, rfl⟩
abbrev main_v71 : Ref sig .tc := ⟨.hbm, 182, rfl⟩
abbrev main_cst_7 : Ref sig .tc := ⟨.hbm, 183, rfl⟩
abbrev main_v72 : Ref sig .tc := ⟨.hbm, 184, rfl⟩
abbrev main_v73 : Ref sig .tc := ⟨.hbm, 185, rfl⟩
abbrev main_cst_8 : Ref sig .tc := ⟨.hbm, 186, rfl⟩
abbrev main_call7_v0 : Ref sig .tc := ⟨.hbm, 187, rfl⟩
abbrev main_call7_v1 : Ref sig .tc := ⟨.hbm, 188, rfl⟩
abbrev main_v74 : Ref sig .tc := ⟨.hbm, 189, rfl⟩
abbrev main_cst_9 : Ref sig .tc := ⟨.hbm, 190, rfl⟩
abbrev main_v75 : Ref sig .tc := ⟨.hbm, 191, rfl⟩
abbrev main_v76 : Ref sig .tc := ⟨.hbm, 192, rfl⟩
abbrev main_cst_10 : Ref sig .tc := ⟨.hbm, 193, rfl⟩
abbrev main_v77 : Ref sig .tc := ⟨.hbm, 194, rfl⟩
abbrev main_v78 : Ref sig .tc := ⟨.hbm, 195, rfl⟩
abbrev main_c_11 : Ref sig .tc := ⟨.hbm, 196, rfl⟩
abbrev main_call8_cst : Ref sig .tc := ⟨.hbm, 197, rfl⟩
abbrev main_call8_v0 : Ref sig .tc := ⟨.hbm, 198, rfl⟩
abbrev main_call8_v1 : Ref sig .tc := ⟨.hbm, 199, rfl⟩
abbrev main_call8_cst_0 : Ref sig .tc := ⟨.hbm, 200, rfl⟩
abbrev main_call8_v2 : Ref sig .tc := ⟨.hbm, 201, rfl⟩
abbrev main_call8_v3 : Ref sig .tc := ⟨.hbm, 202, rfl⟩
abbrev main_call8_v4 : Ref sig .tc := ⟨.hbm, 203, rfl⟩
abbrev main_call8_v5 : Ref sig .tc := ⟨.hbm, 204, rfl⟩
abbrev main_call8_v6 : Ref sig .tc := ⟨.hbm, 205, rfl⟩
abbrev main_call8_v7 : Ref sig .tc := ⟨.hbm, 206, rfl⟩
abbrev main_call8_cst_1 : Ref sig .tc := ⟨.hbm, 207, rfl⟩
abbrev main_call8_v8 : Ref sig .tc := ⟨.hbm, 208, rfl⟩
abbrev main_call8_cst_2 : Ref sig .tc := ⟨.hbm, 209, rfl⟩
abbrev main_call8_v9 : Ref sig .tc := ⟨.hbm, 210, rfl⟩
abbrev main_call8_v10 : Ref sig .tc := ⟨.hbm, 211, rfl⟩
abbrev main_call8_v11 : Ref sig .tc := ⟨.hbm, 212, rfl⟩
abbrev main_call8_v12 : Ref sig .tc := ⟨.hbm, 213, rfl⟩
abbrev main_call8_cst_3 : Ref sig .tc := ⟨.hbm, 214, rfl⟩
abbrev main_call8_v13 : Ref sig .tc := ⟨.hbm, 215, rfl⟩
abbrev main_call8_cst_4 : Ref sig .tc := ⟨.hbm, 216, rfl⟩
abbrev main_call8_call0_v0 : Ref sig .tc := ⟨.hbm, 217, rfl⟩
abbrev main_call8_call0_v1 : Ref sig .tc := ⟨.hbm, 218, rfl⟩
abbrev main_v79 : Ref sig .tc := ⟨.hbm, 219, rfl⟩
abbrev main_v80 : Ref sig .tc := ⟨.hbm, 220, rfl⟩
abbrev main_v81 : Ref sig .tc := ⟨.hbm, 221, rfl⟩
abbrev main_v82 : Ref sig .tc := ⟨.hbm, 222, rfl⟩
abbrev main_v83 : Ref sig .tc := ⟨.hbm, 223, rfl⟩
abbrev main_v84 : Ref sig .tc := ⟨.hbm, 224, rfl⟩
abbrev main_cst_12 : Ref sig .tc := ⟨.hbm, 225, rfl⟩
abbrev main_v85 : Ref sig .tc := ⟨.hbm, 226, rfl⟩
abbrev main_v86 : Ref sig .tc := ⟨.hbm, 227, rfl⟩
abbrev main_v87 : Ref sig .tc := ⟨.hbm, 228, rfl⟩
abbrev main_v88 : Ref sig .tc := ⟨.hbm, 229, rfl⟩
abbrev main_v89 : Ref sig .tc := ⟨.hbm, 230, rfl⟩
abbrev main_v90 : Ref sig .tc := ⟨.hbm, 231, rfl⟩
abbrev main_v91 : Ref sig .tc := ⟨.hbm, 232, rfl⟩
abbrev main_v92 : Ref sig .tc := ⟨.hbm, 233, rfl⟩
abbrev main_v93 : Ref sig .tc := ⟨.hbm, 234, rfl⟩
abbrev main_v94 : Ref sig .tc := ⟨.hbm, 235, rfl⟩
abbrev main_v95 : Ref sig .tc := ⟨.hbm, 236, rfl⟩

abbrev nD : Nat := 1
abbrev τ : Topo := Topo.v7x

variable {F : FTy → Type} [FloatOps F]
-- ==== Proof.Second.lean ====
/-
  The runner-up of a row. A row is a function `d` on the columns `Fin n`. Its winner is the first column at which it is
  zero; its runner-up is the first column, the winner left out, at which it is least. Stated here once, with what selects
  it: two integer minima and a minimum of numbers on one side, the second entry of a stable argsort on the other.
-/
module

public import Idealize.ShloMosaic.Lib.SortPrefix
public import Idealize.ShloMosaic.Lib.SortNet.Extract
public import Idealize.ShloMosaic.Lib.ValueIdx
public import Idealize.ShloMosaic.Lib.IdealHost
public import Idealize.ShloMosaic.Lib.Pointwise

@[expose] public section

noncomputable section

namespace Cert.Near

open Idealize.ShloMosaic

/-- `i` is the first zero of `d`, and `j` the first of the least among the other columns. -/
structure Runner {n : Nat} (d : Fin n → EReal) (i j : Fin n) : Prop where
  zero : d i = 0
  first : ∀ k, k < i → d k ≠ 0
  ne : j ≠ i
  least : ∀ k, k ≠ i → d j ≤ d k
  early : ∀ k, k ≠ i → k < j → d j < d k

/-- Of the columns with a property, one has the least number and comes first among those. -/
theorem exists_first_least {n : Nat} (d : Fin n → EReal) (P : Fin n → Prop) (h : ∃ k, P k) :
    ∃ j, P j ∧ (∀ k, P k → d j ≤ d k) ∧ ∀ k, P k → k < j → d j < d k := by
  classical
  obtain ⟨k₀, hk₀⟩ := h
  obtain ⟨m, hm, hmin⟩ := Finset.exists_min_image (Finset.univ.filter P) d ⟨k₀, by simpa using hk₀⟩
  obtain ⟨j, hj, hfirst⟩ := Finset.exists_min_image (Finset.univ.filter fun k => P k ∧ d k = d m) id
    ⟨m, by simpa using hm⟩
  simp only [Finset.mem_filter, Finset.mem_univ, true_and, id] at hm hmin hj hfirst
  refine ⟨j, hj.1, fun k hk => hj.2 ▸ hmin k hk, fun k hk hkj => ?_⟩
  refine lt_of_le_of_ne (hj.2 ▸ hmin k hk) fun e => ?_
  exact absurd (hfirst k ⟨hk, by rw [← e, hj.2]⟩) (not_le.2 hkj)

/-- A row of two columns or more with a zero has a winner and a runner-up. -/
theorem exists_runner {n : Nat} (d : Fin n → EReal) (p : Fin n) (hp : d p = 0) (h0 : ∃ a b : Fin n, a ≠ b) :
    ∃ i j, Runner d i j := by
  obtain ⟨i, hi, -, hfirst⟩ := exists_first_least (fun _ : Fin n => 0) (fun k => d k = 0) ⟨p, hp⟩
  have hex : ∃ k, k ≠ i := by
    obtain ⟨a, b, hab⟩ := h0
    by_cases ha : a = i
    · exact ⟨b, fun hb => hab (ha.trans hb.symm)⟩
    · exact ⟨a, ha⟩
  obtain ⟨j, hj, hl, he⟩ := exists_first_least d (fun k => k ≠ i) hex
  exact ⟨i, j, hi, fun k hk e => absurd (hfirst k e hk) (lt_irrefl _), hj, hl, he⟩

/-- The runner-up is found among the first `w` columns if every later column is at least `b` and it is below `b`. -/
theorem Runner.narrow {n w : Nat} {d : Fin n → EReal} {i j : Fin n} (h : Runner d i j) (hw : w ≤ n) (b : EReal)
    (hb : 0 < b) (hlate : ∀ k : Fin n, w ≤ k.val → b ≤ d k) (hj : d j < b) :
    ∃ (hi' : i.val < w) (hj' : j.val < w), Runner (fun k : Fin w => d (k.castLE hw)) ⟨i.val, hi'⟩ ⟨j.val, hj'⟩ := by
  have hi' : i.val < w := by
    by_contra hc
    have := hlate i (not_lt.1 hc)
    rw [h.zero] at this
    exact absurd hb (not_lt.2 this)
  have hj' : j.val < w := by
    by_contra hc
    exact absurd hj (not_lt.2 (hlate j (not_lt.1 hc)))
  refine ⟨hi', hj', h.zero, fun k hk => h.first _ hk, fun e => h.ne (Fin.ext (by simpa using e)), ?_, ?_⟩
  · exact fun k hk => h.least _ fun e => hk (Fin.ext (by subst e; rfl))
  · exact fun k hk hkj => h.early _ (fun e => hk (Fin.ext (by subst e; rfl))) hkj

/-! ## The selection by minima -/

/-- A signed minimum of words, taken over all columns, is the word of the first column with a property, when the columns
    with the property hold their own number and the others the number of columns. -/
theorem minWords {n : Nat} (hn : n < 2 ^ 31) (P : Fin n → Prop) [DecidablePred P] (j : Fin n) (hj : P j)
    (hfirst : ∀ k, k < j → ¬ P k) :
    (Finset.univ : Finset (Fin n)).fold (IntOp.minsi (w := 32)) 2147483647#32
        (fun k => if P k then BitVec.ofNat 32 k.val else BitVec.ofNat 32 n) = BitVec.ofNat 32 j.val := by
  have hint : ∀ k, k ≤ n → (BitVec.ofNat 32 k).toInt = (k : Int) := fun k hk => by
    rw [BitVec.toInt_eq_toNat_of_lt (by rw [BitVec.toNat_ofNat]; omega), BitVec.toNat_ofNat, Nat.mod_eq_of_lt (by omega)]
  have key : ∀ (s : Finset (Fin n)), (s.fold (IntOp.minsi (w := 32)) 2147483647#32
      (fun k => if P k then BitVec.ofNat 32 k.val else BitVec.ofNat 32 n)).toInt
      = s.fold min (2147483647 : Int) (fun k => if P k then (k.val : Int) else (n : Int)) := by
    classical
    intro s
    induction s using Finset.induction_on with
    | empty => rfl
    | insert a s ha ih =>
      rw [Finset.fold_insert ha, Finset.fold_insert ha, SortNet.toInt_minsi, ih]
      congr 1
      split
      · exact hint _ (le_of_lt a.isLt)
      · exact hint _ le_rfl
  apply BitVec.eq_of_toInt_eq
  rw [key, hint _ (le_of_lt j.isLt)]
  apply le_antisymm
  · exact Finset.fold_min_le _ |>.2 (Or.inr ⟨j, Finset.mem_univ _, by rw [if_pos hj]⟩)
  · refine Finset.le_fold_min _ |>.2 ⟨by omega, fun k _ => ?_⟩
    split
    · rename_i hk
      by_contra hc
      exact hfirst k (by simpa using hc) hk
    · omega

/-- The minimum of the row with its winner raised to `c` is the runner-up's number, when that is below `c`. -/
theorem minRow {n : Nat} {d : Fin n → EReal} {i j : Fin n} (h : Runner d i j) (c : EReal) (hc : d j < c) :
    (Finset.univ : Finset (Fin n)).fold min ⊤ (fun k => if k = i then c else d k) = d j := by
  apply le_antisymm
  · exact Finset.fold_min_le _ |>.2 (Or.inr ⟨j, Finset.mem_univ _, by rw [if_neg h.ne]⟩)
  · refine Finset.le_fold_min _ |>.2 ⟨le_top, fun k _ => ?_⟩
    split
    · exact le_of_lt hc
    · rename_i hk; exact h.least k hk

/-- The runner-up is the first column where the raised row is least. -/
theorem Runner.first_least {n : Nat} {d : Fin n → EReal} {i j : Fin n} (h : Runner d i j) (c : EReal) (hc : d j < c) :
    (if j = i then c else d j) = d j ∧ ∀ k, k < j → ¬ (if k = i then c else d k) = d j := by
  refine ⟨if_neg h.ne, fun k hk e => ?_⟩
  split at e
  · exact absurd e (ne_of_gt hc)
  · rename_i hki; exact absurd e (ne_of_gt (h.early k hki hk))

/-! ## The selection by a stable argsort -/

/-- Inserting before a list of later positions, the order on the numbers alone and the order on the number and then the
    position insert alike. -/
theorem stableSort_key {n : Nat} (d : Fin n → EReal) (l : List (Fin n)) (hl : l.Pairwise (· < ·)) :
    stableSort (fun a b => decide (d a < d b)) l
      = stableSort (fun a b => decide (d a < d b) || (decide (d a = d b) && decide (a < b))) l := by
  induction l with
  | nil => rfl
  | cons a l ih =>
    obtain ⟨ha, hl'⟩ := List.pairwise_cons.mp hl
    unfold stableSort
    rw [ih hl']
    refine insertBefore_congr _ _ a _ fun b hb => ?_
    have hab : a < b := ha b ((perm_stableSort _ l).mem_iff.mp hb)
    simp [not_lt.2 (le_of_lt hab)]

/-- The second position of the stable argsort of a row of nonnegative numbers is its runner-up. -/
theorem sortedFrom_runner {n : Nat} {d : Fin n → EReal} {i j : Fin n} (h : Runner d i j) (hd : ∀ k, 0 ≤ d k) (hn : 2 ≤ n) :
    sortedFrom (fun a b : Fin n => decide (d a < d b)) ⟨1, by omega⟩ = j := by
  have hB : StrictTotalBefore fun a b : Fin n => decide (d a < d b) || (decide (d a = d b) && decide (a < b)) :=
    StrictTotalBefore.of_key_then_position (fun x y : EReal => decide (x < y)) d (by simp)
      (fun a b c => by simp only [decide_eq_true_eq]; exact lt_trans)
      (fun a b => by simp only [decide_eq_true_eq]; exact lt_trichotomy a b)
  have hs : sortedFrom (fun a b : Fin n => decide (d a < d b))
      = sortedFrom (fun a b : Fin n => decide (d a < d b) || (decide (d a = d b) && decide (a < b))) := by
    funext k
    unfold sortedFrom sortPositions
    rw [List.get_of_eq (stableSort_key d _ (List.pairwise_lt_finRange n))]
    rfl
  have hlate : ∀ k, d k = 0 → k ≠ i → i < k := fun k hk hki => by
    rcases lt_trichotomy k i with hlt | heq | hgt
    · exact absurd hk (h.first k hlt)
    · exact absurd heq hki
    · exact hgt
  have hwin : ∀ k, k ≠ i → (decide (d k < d i) || (decide (d k = d i) && decide (k < i))) = false := fun k hki => by
    rw [h.zero]
    simp only [Bool.or_eq_false_iff, decide_eq_false_iff_not, not_lt, Bool.and_eq_false_iff]
    refine ⟨hd k, ?_⟩
    by_cases e : d k = 0
    · exact Or.inr (le_of_lt (hlate k e hki))
    · exact Or.inl e
  have hrun : ∀ k, k ≠ i → k ≠ j → (decide (d k < d j) || (decide (d k = d j) && decide (k < j))) = false := fun k hki hkj => by
    simp only [Bool.or_eq_false_iff, decide_eq_false_iff_not, not_lt, Bool.and_eq_false_iff]
    refine ⟨h.least k hki, ?_⟩
    by_cases e : k < j
    · exact Or.inl (ne_of_gt (h.early k hki e))
    · exact Or.inr (not_lt.1 e)
  have := hB.sortedFrom_eq_of_prefix (k := 2) hn ![i, j]
    (by
      intro a b hab
      fin_cases a <;> fin_cases b <;> first | rfl | exact absurd hab.symm h.ne | exact absurd hab h.ne)
    (by
      intro a b hab
      fin_cases a <;> fin_cases b <;> first | exact absurd hab (by decide) | exact hwin j h.ne)
    (by
      intro a p hp
      have hpi : p ≠ i := fun e => hp 0 e.symm
      have hpj : p ≠ j := fun e => hp 1 e.symm
      fin_cases a
      · exact hwin p hpi
      · exact hrun p hpi hpj) 1
  rw [hs]
  exact this

end Cert.Near

end
-- ==== Proof.Dist.lean ====
/-
  The row of distances from one of 2048 numbers to all of them, as both programs compare them: the root of the squared
  difference, and 1000 more at the columns a row may not choose (those after its own position, and for the first 1024
  rows those from 1024 on). While every number is below 500 in size, no admitted column is as far as a refused one.
-/
module

public import proofs.«01_k».proof.Proof.Second

@[expose] public section

noncomputable section

namespace Cert.Near

open Idealize.ShloMosaic

/-- What a refused column is further away. -/
def penalty : EReal := Ideal.ofBits .f32 0x447A0000#32

/-- What the winner's zero is raised to. -/
def raised : EReal := Ideal.ofBits .f32 0x476A6000#32

/-- The penalty is 1000. -/
theorem penalty_eq : penalty = ((1000 : ℝ) : EReal) := by
  unfold penalty; simp [Ideal.ofBits, Ideal.ieee, -EReal.coe_mul]; norm_num

/-- What replaces a point's distance to itself is 60000. -/
theorem raised_eq : raised = ((60000 : ℝ) : EReal) := by
  unfold raised; simp [Ideal.ofBits, Ideal.ieee, -EReal.coe_mul]; norm_num

/-- The precondition's bound is 500. -/
theorem bound_eq : Ideal.ofBits .f32 0x43FA0000#32 = ((500 : ℝ) : EReal) := by
  simp [Ideal.ofBits, Ideal.ieee, -EReal.coe_mul]; norm_num

/-- The word of the infinity is the largest extended real. -/
theorem infinity_eq : Ideal.ofBits .f32 0x7F800000#32 = ⊤ := by
  simp [Ideal.ofBits, Ideal.ieee]

/-- The root of the squared difference of two numbers. -/
def gap (a b : EReal) : EReal := Ideal.sqrt ((a - b) * (a - b))

/-- The distance from number `p` to number `k`, with the penalty where `k` is refused. -/
def row (X : Fin 2048 → EReal) (p k : Fin 2048) : EReal :=
  gap (X p) (X k) + if max p.val 1023 < k.val then penalty else 0

/-- Every number is below 500 in size. -/
def Small (X : Fin 2048 → EReal) : Prop := ∀ k, ∃ x : ℝ, X k = (x : EReal) ∧ |x| < 500

/-- Between real numbers it is the absolute difference. -/
theorem gap_coe (a b : ℝ) : gap a b = ((|a - b| : ℝ) : EReal) := by
  unfold gap
  rw [← EReal.coe_sub, ← EReal.coe_mul, Ideal.sqrt_coe, if_neg (not_lt.2 (mul_self_nonneg _)), Real.sqrt_mul_self_eq_abs]

variable {X : Fin 2048 → EReal} (hX : Small X)
include hX

/-- A distance is at least zero and below the penalty. -/
theorem gap_bounds (p k : Fin 2048) : 0 ≤ gap (X p) (X k) ∧ gap (X p) (X k) < penalty := by
  obtain ⟨a, ha, ha'⟩ := hX p
  obtain ⟨b, hb, hb'⟩ := hX k
  rw [ha, hb, gap_coe, penalty_eq, ← EReal.coe_zero, EReal.coe_le_coe_iff, EReal.coe_lt_coe_iff]
  exact ⟨abs_nonneg _, by have := abs_sub a b; linarith⟩

/-- The distance of a point to itself is zero. -/
theorem gap_self (p : Fin 2048) : gap (X p) (X p) = 0 := by
  obtain ⟨a, ha, -⟩ := hX p
  rw [ha, gap_coe, sub_self, abs_zero, EReal.coe_zero]

/-- The entry of an admitted point is its distance. -/
theorem row_admitted {p k : Fin 2048} (h : ¬ max p.val 1023 < k.val) : row X p k = gap (X p) (X k) := by
  unfold row; rw [if_neg h, add_zero]

/-- The entry of a refused point is at least the penalty. -/
theorem row_refused {p k : Fin 2048} (h : max p.val 1023 < k.val) : penalty ≤ row X p k := by
  unfold row; rw [if_pos h]
  exact le_add_of_nonneg_left (gap_bounds hX p k).1

/-- No entry is negative. -/
theorem row_nonneg (p k : Fin 2048) : 0 ≤ row X p k := by
  by_cases h : max p.val 1023 < k.val
  · refine le_trans ?_ (row_refused hX h)
    rw [penalty_eq, ← EReal.coe_zero, EReal.coe_le_coe_iff]; norm_num
  · rw [row_admitted hX h]; exact (gap_bounds hX p k).1

/-- Every row has a runner-up. -/
theorem exists_near (p : Fin 2048) : ∃ i j, Runner (row X p) i j :=
  exists_runner _ p (by rw [row_admitted hX (by omega)]; exact gap_self hX p) ⟨0, 1, by decide⟩

/-- A runner-up is admitted, so its distance is below the penalty. -/
theorem Runner.lt_penalty {p i j : Fin 2048} (h : Runner (row X p) i j) : row X p j < penalty := by
  have key : ∀ k : Fin 2048, k.val < 1024 → k ≠ i → row X p j < penalty := fun k hk hki =>
    lt_of_le_of_lt (h.least k hki) (by rw [row_admitted hX (by omega)]; exact (gap_bounds hX p k).2)
  by_cases h0 : (0 : Fin 2048) = i
  · exact key 1 (by decide) (by rw [← h0]; decide)
  · exact key 0 (by decide) h0

omit hX in
/-- The penalty is positive and below the raised number. -/
theorem penalty_bounds : 0 < penalty ∧ penalty < raised := by
  rw [penalty_eq, raised_eq, ← EReal.coe_zero, EReal.coe_lt_coe_iff, EReal.coe_lt_coe_iff]; norm_num

/-- The runner-up of a row among its first `w` columns, when the refused columns include all the later ones. -/
theorem Runner.prefix {p i j : Fin 2048} (h : Runner (row X p) i j) {w : Nat} (hw : w ≤ 2048)
    (hlate : ∀ k : Fin 2048, w ≤ k.val → max p.val 1023 < k.val) :
    ∃ (hi' : i.val < w) (hj' : j.val < w), Runner (fun k : Fin w => row X p (k.castLE hw)) ⟨i.val, hi'⟩ ⟨j.val, hj'⟩ :=
  h.narrow hw penalty penalty_bounds.1 (fun k hk => row_refused hX (hlate k hk)) (h.lt_penalty hX)

omit hX in
open Classical in
/-- The position of the runner-up of row `p` of the distances between the numbers `X`. -/
def near (X : Fin 2048 → EReal) (p : Fin 2048) : Fin 2048 :=
  if h : ∃ i j, Runner (row X p) i j then h.choose_spec.choose else p

/-- It is one. -/
theorem near_spec (p : Fin 2048) : ∃ i, Runner (row X p) i (near X p) := by
  have h := exists_near hX p
  unfold near
  rw [dif_pos h]
  exact ⟨_, h.choose_spec.choose_spec⟩

end Cert.Near

end
-- ==== Proof.Row.lean ====
/-
  One block of 512 rows, `W` columns wide, as the kernel handles it: which column each row chooses, and what it reads
  there. The block's rows are given as the array `d`; a row chooses the runner-up of its numbers.
-/
module

public import proofs.«01_k».proof.Proof.Dist

@[expose] public section

noncomputable section

namespace Cert.Near

open Idealize.ShloMosaic

/-- The shape of a block of 512 rows. -/
abbrev Blk (W : Nat) : Shape := ⟨2, ![512, W]⟩
/-- One row. -/
abbrev Line (W : Nat) : Shape := ⟨2, ![1, W]⟩
/-- One column. -/
abbrev Col : Shape := ⟨2, ![512, 1]⟩
/-- A number for each of 512 rows. -/
abbrev Vec512 : Shape := ⟨1, ![512]⟩

section
variable {W : Nat} {α : Type}

/-- A column repeated across a block. -/
theorem col_at (x : Col.Idx → α) (h : Col.Broadcasts (Blk W)) (r : Fin 512) (k : Fin W) :
    broadcastTo (Blk W) x h (ix2 r k) = x (ix2 r 0) := by
  unfold broadcastTo
  congr 1
  funext a
  fin_cases a <;> rfl

/-- A row repeated down a block. -/
theorem line_at (x : (Line W).Idx → α) (h : (Line W).Broadcasts (Blk W)) (r : Fin 512) (k : Fin W) :
    broadcastTo (Blk W) x h (ix2 r k) = x (ix2 0 k) := by
  unfold broadcastTo
  congr 1
  funext a
  fin_cases a
  · rfl
  · by_cases hW : W = 1
    · subst hW
      exact Subsingleton.elim (α := Fin 1) _ _
    · exact dif_neg hW

/-- A number for each row, set up as a column. -/
theorem upright_at (x : Vec512.Idx → α) (h : Vec512.ShapeCasts Col) (r : Fin 512) :
    shapeCast Col x h (ix2 r 0) = x (ix1 r) := by
  pointwise

/-- A column of numbers laid down as a row. -/
theorem flat_at (x : Col.Idx → α) (h : Col.ShapeCasts (Line 512)) (r : Fin 512) :
    shapeCast (Line 512) x h (ix2 0 r) = x (ix2 r 0) := by
  pointwise

/-- A row set up as a column. -/
theorem stand_at (x : (Line 512).Idx → α) (h : (Line 512).ShapeCasts Col) (r : Fin 512) :
    shapeCast Col x h (ix2 r 0) = x (ix2 0 r) := by
  pointwise

/-- The number of the column, at each place of a block. -/
theorem count_at (h : (Blk W).Iotas .tc 32 [1]) (r : Fin 512) (k : Fin W) :
    iota .tc (Blk W) 32 [1] h (ix2 r k) = BitVec.ofNat 32 k.val := by
  rw [iota_apply]; simp

/-- A row's signed minimum of words. -/
theorem minWords_at (x : IVec (Blk W) 32) (hr : (Blk W).Reduces [1] Vec512) (hacc : 2147483647#32 = IKind.minsi.neutral) (r : Fin 512) :
    multiReductionI .minsi [1] Vec512 x 2147483647#32 hr hacc (ix1 r)
      = (Finset.univ : Finset (Fin W)).fold (IntOp.minsi (w := 32)) 2147483647#32 fun k => x (ix2 r k) := by
  rw [multiReductionI_eq_fold]
  exact Shape.Reduces.fold_fiber_r2_a1 hr (ix1 r) (IntOp.minsi (w := 32)) _ x

/-- A row's minimum of numbers. -/
theorem minRow_at (x : FVec Ideal (Blk W) .f32) (hr : (Blk W).Reduces [1] Vec512) (hφ : FKind.Formats .f32)
    (hacc : 0x7F800000#32 = FKind.minimumf.neutral .f32 hφ) (r : Fin 512) :
    multiReduction .minimumf [1] Vec512 x 0x7F800000#32 hr hφ hacc (ix1 r)
      = (Finset.univ : Finset (Fin W)).fold min (⊤ : EReal) fun k => x (ix2 r k) := by
  rw [multiReduction_minimumf_eq_reduceFold, Ideal.minimumf_eq_min, reduceFold_eq_fold]
  refine (Shape.Reduces.fold_fiber_r2_a1 hr (ix1 r) (min : EReal → EReal → EReal) _ x).trans ?_
  rw [show (FloatOps.ofBits FTy.f32 0x7F800000#32 : Ideal .f32) = (⊤ : EReal) from infinity_eq]
  rfl

/-- A row's sum. -/
theorem sumRow_at (x : FVec Ideal (Blk W) .f32) (hr : (Blk W).Reduces [1] Vec512) (hφ : FKind.Formats .f32)
    (hacc : 0x00000000#32 = FKind.add.neutral .f32 hφ) (r : Fin 512) :
    multiReduction .add [1] Vec512 x 0x00000000#32 hr hφ hacc (ix1 r) = ∑ k : Fin W, (x (ix2 r k) : EReal) :=
  Ideal.reduceAdd_r2_a1 hr x (ix1 r)

end

section
variable (W : Nat) (hr : (Blk W).Reduces [1] Vec512) (hi : (Blk W).Iotas .tc 32 [1]) (hb : Col.Broadcasts (Blk W))
  (hc : Vec512.ShapeCasts Col)

/-- At each place, the first column of its row with the mark, compared with the place's own column. -/
def firstMark (mark : IVec (Blk W) 1) : IVec (Blk W) 1 :=
  cmpi .eq (iota .tc (Blk W) 32 [1] hi)
    (broadcastTo (Blk W) (shapeCast Col (multiReductionI .minsi [1] Vec512
      (select mark (iota .tc (Blk W) 32 [1] hi) (broadcast (Blk W) (BitVec.ofNat 32 W))) 2147483647#32 hr rfl) hc) hb)

/-- The block with each row's first zero raised. -/
def raise (d : FVec Ideal (Blk W) .f32) : FVec Ideal (Blk W) .f32 :=
  select (firstMark W hr hi hb hc (cmpf .oeq d (broadcast (Blk W) (Scalar.ofBits .f32 0x00000000#32))))
    (broadcast (Blk W) (Scalar.ofBits .f32 0x476A6000#32)) d

/-- Where each row of the block has its runner-up. -/
def chosen (d : FVec Ideal (Blk W) .f32) : IVec (Blk W) 1 :=
  firstMark W hr hi hb hc (cmpf .oeq (raise W hr hi hb hc d)
    (broadcastTo (Blk W) (shapeCast Col (multiReduction .minimumf [1] Vec512 (raise W hr hi hb hc d) 0x7F800000#32 hr
      (.inl rfl) rfl) hc) hb))

/-- What each row finds at the marked places of the row `p`, added up. -/
def picked (hl : (Line W).Broadcasts (Blk W)) (hs : (Line W).ShapeCasts (Line W)) (mark : IVec (Blk W) 1)
    (p : FVec Ideal (Line W) .f32) : FVec Ideal Vec512 .f32 :=
  multiReduction .add [1] Vec512 (select mark (broadcastTo (Blk W) (shapeCast (Line W) p hs) hl)
    (broadcast (Blk W) (Scalar.ofBits .f32 0x00000000#32))) 0x00000000#32 hr (.inl rfl) rfl

variable {W hr hi hb hc}

/-- The first column with the mark is the only place left. -/
theorem firstMark_at (hW : W < 2 ^ 31) (mark : IVec (Blk W) 1) (r : Fin 512) (P : Fin W → Prop) [DecidablePred P]
    (hP : ∀ k, mark (ix2 r k) = BitVec.ofBool (decide (P k))) (j : Fin W) (hj : P j) (hfirst : ∀ k, k < j → ¬ P k) (k : Fin W) :
    firstMark W hr hi hb hc mark (ix2 r k) = BitVec.ofBool (decide (k = j)) := by
  unfold firstMark
  have hmin : multiReductionI .minsi [1] Vec512
      (select mark (iota .tc (Blk W) 32 [1] hi) (broadcast (Blk W) (BitVec.ofNat 32 W))) 2147483647#32 hr rfl (ix1 r)
      = BitVec.ofNat 32 j.val := by
    refine (minWords_at _ hr rfl r).trans ?_
    rw [← minWords hW P j hj hfirst]
    congr 1
    funext k
    show (if mark (ix2 r k) = 1#1 then iota .tc (Blk W) 32 [1] hi (ix2 r k) else BitVec.ofNat 32 W) = _
    rw [hP, count_at]
    by_cases h : P k <;> simp [h]
  show BitVec.ofBool (decide (iota .tc (Blk W) 32 [1] hi (ix2 r k) = _)) = _
  rw [col_at, upright_at, hmin, count_at]
  congr 1
  refine decide_eq_decide.2 ⟨fun e => Fin.ext ?_, fun e => by rw [e]⟩
  have := congrArg BitVec.toNat e
  rw [BitVec.toNat_ofNat, BitVec.toNat_ofNat, Nat.mod_eq_of_lt (by omega), Nat.mod_eq_of_lt (by omega)] at this
  exact this

/-- A row whose numbers have the runner-up `j`, below the raised number, chooses column `j`. -/
theorem chosen_at (hW : W < 2 ^ 31) (d : FVec Ideal (Blk W) .f32) (r : Fin 512) (i j : Fin W)
    (h : Runner (fun k => (d (ix2 r k) : EReal)) i j) (hlt : (d (ix2 r j) : EReal) < raised) (k : Fin W) :
    chosen W hr hi hb hc d (ix2 r k) = BitVec.ofBool (decide (k = j)) := by
  classical
  have hraise : ∀ k, (raise W hr hi hb hc d (ix2 r k) : EReal) = if k = i then raised else d (ix2 r k) := fun k => by
    show (if firstMark W hr hi hb hc _ (ix2 r k) = 1#1 then _ else _) = _
    rw [firstMark_at hW _ r (fun k => (d (ix2 r k) : EReal) = 0) (fun k => ?_) i h.zero h.first]
    · by_cases hk : k = i
      · simp only [hk, decide_true, if_pos]; rfl
      · simp [hk]
    · show BitVec.ofBool (decide ((d (ix2 r k) : EReal) = Ideal.ofBits .f32 0x00000000#32)) = _
      rw [Ideal.ofBits_zero_f32]
  have hfl := h.first_least raised hlt
  unfold chosen
  refine firstMark_at hW _ r (fun k => (if k = i then raised else (d (ix2 r k) : EReal)) = d (ix2 r j)) (fun k => ?_) j hfl.1 hfl.2 k
  show BitVec.ofBool (decide ((raise W hr hi hb hc d (ix2 r k) : EReal) = _)) = _
  rw [col_at, upright_at, hraise]
  rw [show (multiReduction .minimumf [1] Vec512 (raise W hr hi hb hc d) 0x7F800000#32 hr (.inl rfl) rfl (ix1 r) : EReal)
    = d (ix2 r j) from (minRow_at _ hr (.inl rfl) rfl r).trans (by simp only [hraise]; exact minRow h raised hlt)]

/-- A row that chooses column `j` reads `p` there. -/
theorem picked_at (hl : (Line W).Broadcasts (Blk W)) (hs : (Line W).ShapeCasts (Line W)) (mark : IVec (Blk W) 1)
    (p : FVec Ideal (Line W) .f32) (r : Fin 512) (j : Fin W) (hm : ∀ k, mark (ix2 r k) = BitVec.ofBool (decide (k = j))) :
    (picked W hr hl hs mark p (ix1 r) : EReal) = p (ix2 0 j) := by
  refine (sumRow_at _ hr (.inl rfl) rfl r).trans ?_
  have : ∀ k : Fin W, (select mark (broadcastTo (Blk W) (shapeCast (Line W) p hs) hl)
      (broadcast (Blk W) (Scalar.ofBits (F := Ideal) .f32 0x00000000#32)) (ix2 r k) : EReal)
      = if k = j then p (ix2 0 k) else 0 := fun k => by
    show (if mark (ix2 r k) = 1#1 then broadcastTo (Blk W) (shapeCast (Line W) p hs) hl (ix2 r k)
      else (Ideal.ofBits .f32 0x00000000#32 : EReal)) = _
    rw [hm, line_at, Ideal.ofBits_zero_f32, shapeCast_self]
    by_cases hk : k = j <;> simp [hk]
  simp only [this, Finset.sum_ite_eq', Finset.mem_univ, if_true]

end

end Cert.Near

end
-- ==== Proof.Block.lean ====
/-
  What the kernel computes for one chunk of 512 points of a batch element: for each point its neighbour among the first
  `W` points, the differences to it, and the difference quotient.
-/
module

public import proofs.«01_k».proof.Proof.Row

@[expose] public section

noncomputable section

namespace Cert.Near

open Idealize.ShloMosaic

/-- The operations on a block of `W` columns fit its shape. -/
structure Fits (W : Nat) : Prop where
  red : (Blk W).Reduces [1] Vec512
  count : (Blk W).Iotas .tc 32 [1]
  col : Col.Broadcasts (Blk W)
  line : (Line W).Broadcasts (Blk W)
  same : (Line W).ShapeCasts (Line W)
  up : Vec512.ShapeCasts Col
  down : Col.ShapeCasts (Line 512)

/-- The block splits into its first `base` columns and the 512 columns after them. -/
structure Splits (base W : Nat) : Prop where
  head : (Blk W).Slices ![0, 0] (Blk base)
  tail : (Blk W).Slices ![0, base] (Blk 512)
  join : Shape.Concatenates [Blk base, Blk 512] (Blk W) 1
  rows : (Blk 512).Iotas .tc 32 [0]
  cols : (Blk 512).Iotas .tc 32 [1]

section
variable {W : Nat}

/-- The distances from each of 512 numbers to each of `W` numbers. -/
def gaps (f : Fits W) (q : FVec Ideal Col .f32) (p : FVec Ideal (Line W) .f32) : FVec Ideal (Blk W) .f32 :=
  sqrt (mulf (subf (broadcastTo (Blk W) q f.col) (broadcastTo (Blk W) p f.line))
    (subf (broadcastTo (Blk W) q f.col) (broadcastTo (Blk W) p f.line)))

/-- Entry by entry it is the distance. -/
theorem gaps_at (f : Fits W) (q : FVec Ideal Col .f32) (p : FVec Ideal (Line W) .f32) (r : Fin 512) (k : Fin W) :
    (gaps f q p (ix2 r k) : EReal) = gap (q (ix2 r 0)) (p (ix2 0 k)) := by
  show Ideal.sqrt ((broadcastTo (Blk W) q f.col (ix2 r k) - broadcastTo (Blk W) p f.line (ix2 r k) : EReal)
    * (broadcastTo (Blk W) q f.col (ix2 r k) - broadcastTo (Blk W) p f.line (ix2 r k))) = _
  rw [col_at, line_at]; rfl

/-- The block with the penalty added above the diagonal of its last 512 columns. -/
def guarded {base : Nat} (s : Splits base W) (d : FVec Ideal (Blk W) .f32) : FVec Ideal (Blk W) .f32 :=
  concatenate (Blk W) 1 [⟨Blk base, extractStridedSlice (Blk base) ![0, 0] d s.head⟩,
    ⟨Blk 512, addf (extractStridedSlice (Blk 512) ![0, base] d s.tail)
      (select (cmpi .sgt (iota .tc (Blk 512) 32 [1] s.cols) (iota .tc (Blk 512) 32 [0] s.rows))
        (broadcast (Blk 512) (Scalar.ofBits .f32 0x447A0000#32)) (broadcast (Blk 512) (Scalar.ofBits .f32 0x00000000#32)))⟩] s.join

/-- Entry by entry it is the distance, with the penalty beyond the point itself. -/
theorem guarded_at {base : Nat} (s : Splits base W) (d : FVec Ideal (Blk W) .f32) (r : Fin 512) (k : Fin W) :
    (guarded s d (ix2 r k) : EReal) = d (ix2 r k) + if base + r.val < k.val then penalty else 0 := by
  unfold guarded
  by_cases hk : k.val < base
  · rw [if_neg (by omega), add_zero]
    refine (concatenate_pair_apply_left (1 : Fin (Blk W).rank) _ _ s.join (ix2 r k) rfl (ix2 r ⟨k.val, hk⟩) fun b => ?_).trans ?_
    · fin_cases b <;> rfl
    · refine congrArg d (funext fun a => ?_)
      fin_cases a <;> exact Fin.ext (by simp [ix2])
  · have hW : W = base + 512 := by
      have := s.join.2.2
      simpa using this.symm
    obtain ⟨l, hl⟩ : ∃ l : Fin 512, l.val + base = k.val := ⟨⟨k.val - base, by omega⟩, by dsimp only; omega⟩
    refine (concatenate_pair_apply_right (1 : Fin (Blk W).rank) _ _ s.join (ix2 r k) rfl rfl (ix2 r l) (fun b hb => ?_) hl).trans ?_
    · fin_cases b
      · rfl
      · exact absurd rfl hb
    · have e : extractStridedSlice (Blk 512) ![0, base] d s.tail (ix2 r l) = d (ix2 r k) := by
        refine congrArg d (funext fun a => ?_)
        fin_cases a <;> exact Fin.ext (by simp [ix2]; try omega)
      show (extractStridedSlice (Blk 512) ![0, base] d s.tail (ix2 r l) : EReal)
        + (if cmpi .sgt (iota .tc (Blk 512) 32 [1] s.cols) (iota .tc (Blk 512) 32 [0] s.rows) (ix2 r l) = 1#1
            then penalty else Ideal.ofBits .f32 0x00000000#32) = _
      rw [e, Ideal.ofBits_zero_f32]
      congr 1
      have hc : cmpi .sgt (iota .tc (Blk 512) 32 [1] s.cols) (iota .tc (Blk 512) 32 [0] s.rows) (ix2 r l)
          = BitVec.ofBool (decide (r.val < l.val)) := by
        show BitVec.ofBool ((iota .tc (Blk 512) 32 [0] s.rows (ix2 r l)).slt (iota .tc (Blk 512) 32 [1] s.cols (ix2 r l))) = _
        rw [show iota .tc (Blk 512) 32 [0] s.rows (ix2 r l) = BitVec.ofNat 32 r.val by rw [iota_apply]; simp,
          show iota .tc (Blk 512) 32 [1] s.cols (ix2 r l) = BitVec.ofNat 32 l.val by rw [iota_apply]; simp]
        congr 1
        rw [BitVec.slt_eq_decide, BitVec.toInt_eq_toNat_of_lt, BitVec.toInt_eq_toNat_of_lt, BitVec.toNat_ofNat, BitVec.toNat_ofNat,
          Nat.mod_eq_of_lt (by omega), Nat.mod_eq_of_lt (by omega)]
        · simp
        · rw [BitVec.toNat_ofNat]; omega
        · rw [BitVec.toNat_ofNat]; omega
      rw [hc]
      by_cases hrl : r.val < l.val
      · rw [if_pos (by simp [hrl]), if_pos (by omega)]
      · rw [if_neg (by simp [hrl]), if_neg (by omega)]

/-- What each of 512 points reads from `line` at its runner-up of the distances `d`. -/
def found (f : Fits W) (d : FVec Ideal (Blk W) .f32) (line : FVec Ideal (Line W) .f32) : FVec Ideal (Line 512) .f32 :=
  shapeCast (Line 512) (shapeCast Col (picked W f.red f.line f.same (chosen W f.red f.count f.col f.up d) line) f.up) f.down

/-- A point whose distances are those of its whole row reads `line` at its neighbour. -/
theorem found_at (f : Fits W) (hw : W ≤ 2048) {X : Fin 2048 → EReal} (hX : Small X) (p : Fin 2048)
    (hlate : ∀ k : Fin 2048, W ≤ k.val → max p.val 1023 < k.val) (d : FVec Ideal (Blk W) .f32) (r : Fin 512)
    (hd : ∀ k : Fin W, (d (ix2 r k) : EReal) = row X p (k.castLE hw)) (line : FVec Ideal (Line W) .f32) (Z : Fin 2048 → EReal)
    (hline : ∀ k : Fin W, (line (ix2 0 k) : EReal) = Z (k.castLE hw)) :
    (found f d line (ix2 0 r) : EReal) = Z (near X p) := by
  obtain ⟨i, hi⟩ := near_spec hX p
  obtain ⟨hiW, hjW, hrun⟩ := hi.prefix hX hw hlate
  have hrun' : Runner (fun k => (d (ix2 r k) : EReal)) ⟨i.val, hiW⟩ ⟨(near X p).val, hjW⟩ := by
    rw [show (fun k => (d (ix2 r k) : EReal)) = fun k : Fin W => row X p (k.castLE hw) from funext hd]; exact hrun
  unfold found
  rw [flat_at, upright_at, picked_at f.line f.same _ line r ⟨(near X p).val, hjW⟩, hline]
  · rfl
  · refine chosen_at (by omega) d r _ _ hrun' ?_
    rw [hd]
    exact lt_trans (hi.lt_penalty hX) penalty_bounds.2

end

/-- The difference quotient: the difference in value over the size of the difference in place, kept away from zero. -/
def slope (y x : EReal) : EReal := Ideal.div y (Ideal.ofBits .f32 0x360637BD#32 + Ideal.sqrt (x * x))

/-- A number, or zero where its size is above 200. -/
def clip (q : EReal) : EReal := if Ideal.ofBits .f32 0x43480000#32 < max q (-q) then 0 else q

/-- One where clipping changed nothing, zero elsewhere. -/
def kept (q : EReal) : EReal := if clip q = q then 1 else 0

/-- One stored block. -/
abbrev Out : Shape := ⟨4, ![1, 1, 1, 512]⟩

section
variable (h : (Line 512).ShapeCasts Out)

/-- The quotients of a chunk. -/
def slopes (y x : FVec Ideal (Line 512) .f32) : FVec Ideal (Line 512) .f32 :=
  divf y (addf (broadcast (Line 512) (Scalar.ofBits .f32 0x360637BD#32)) (sqrt (mulf x x)))

/-- The clipped quotients of a chunk. -/
def clips (q : FVec Ideal (Line 512) .f32) : FVec Ideal (Line 512) .f32 :=
  select (cmpf .ogt (absf q) (broadcast (Line 512) (Scalar.ofBits .f32 0x43480000#32)))
    (broadcast (Line 512) (Scalar.ofBits .f32 0x00000000#32)) q

/-- Where clipping changed nothing in a chunk. -/
def marks (q : FVec Ideal (Line 512) .f32) : FVec Ideal (Line 512) .f32 :=
  sitofp .f32 (extui 32 (cmpf .oeq (clips q) (select (cmpf .one q q) (broadcast (Line 512) (Scalar.ofBits .f32 0x461C4000#32)) q)) (by decide))

/-- The six blocks stored for a chunk: the differences in value and in place, the neighbours' places and values, the
    clipped quotients, and where clipping changed nothing. -/
def six (x y xn yn : FVec Ideal (Line 512) .f32) :
    Vec Ideal Out .f32 × Vec Ideal Out .f32 × Vec Ideal Out .f32 × Vec Ideal Out .f32 × Vec Ideal Out .f32 × Vec Ideal Out .f32 :=
  (shapeCast Out (subf y yn) h, shapeCast Out (subf x xn) h, shapeCast Out xn h, shapeCast Out yn h,
    shapeCast Out (clips (slopes (subf y yn) (subf x xn))) h, shapeCast Out (marks (slopes (subf y yn) (subf x xn))) h)

variable {h}

/-- A line of 512 numbers keeps its order in the shape of a stored block. -/
theorem out_at (v : FVec Ideal (Line 512) .f32) (r : Fin 512) : shapeCast Out v h (ix4 0 0 0 r) = v (ix2 0 r) := by
  pointwise

/-- Entry by entry it is the difference quotient. -/
theorem slopes_at (y x : FVec Ideal (Line 512) .f32) (i : (Line 512).Idx) : (slopes y x i : EReal) = slope (y i) (x i) := rfl

/-- Entry by entry it is the clipped quotient. -/
theorem clips_at (q : FVec Ideal (Line 512) .f32) (i : (Line 512).Idx) : (clips q i : EReal) = clip (q i) := by
  show (if BitVec.ofBool (decide (Ideal.ofBits .f32 0x43480000#32 < max (q i : EReal) (-q i))) = 1#1
    then (Ideal.ofBits .f32 0x00000000#32 : EReal) else q i) = _
  rw [Ideal.ofBits_zero_f32]
  unfold clip
  by_cases hq : Ideal.ofBits .f32 0x43480000#32 < max (q i : EReal) (-q i) <;> simp [hq]

/-- Entry by entry it says whether clipping changed nothing. -/
theorem marks_at (q : FVec Ideal (Line 512) .f32) (i : (Line 512).Idx) : (marks q i : EReal) = kept (q i) := by
  show ((((BitVec.ofBool (decide ((clips q i : EReal) = if BitVec.ofBool (decide ((q i : EReal) ≠ q i)) = 1#1
    then (Ideal.ofBits .f32 0x461C4000#32 : EReal) else q i))).setWidth 32).toInt : ℝ) : EReal) = _
  rw [clips_at]
  unfold kept
  by_cases hq : clip (q i) = q i <;> simp [hq]

end

end Cert.Near

end
-- ==== Proof.Chunk.lean ====
/-
  The neighbour kernel's stored blocks at each of its points: the six blocks of a chunk, with the neighbours found among
  the first 1024, 1536 or 2048 points.
-/
module

public import proofs.«01_k».proof.Proof.Gen.KernelIdeal.Frame
public import proofs.«01_k».proof.Proof.Block
public import Idealize.ShloMosaic.Lib.VecWindow

@[expose] public section

set_option maxRecDepth 16384

noncomputable section

namespace Cert.KernelIdeal.Near

open Idealize.ShloMosaic Idealize.ShloMosaic.TcCoe Idealize.SL.Sem
open Cert.KernelIdeal.Gen Cert.Near

/-- The shapes of a context chunk fit together. -/
theorem fits1024 : Fits 1024 := ⟨reduces_S512x1024_S512, iota_S512x1024_d1_w32, broadcasts_S512x1_S512x1024,
  broadcasts_S1x1024_S512x1024, shapeCasts_S1x1024_S1x1024, shapeCasts_S512_S512x1, shapeCasts_S512x1_S1x512⟩

/-- The shapes of the first target chunk fit together. -/
theorem fits1536 : Fits 1536 := ⟨reduces_S512x1536_S512, iota_S512x1536_d1_w32, broadcasts_S512x1_S512x1536,
  broadcasts_S1x1536_S512x1536, shapeCasts_S1x1536_S1x1536, shapeCasts_S512_S512x1, shapeCasts_S512x1_S1x512⟩

/-- The shapes of the second target chunk fit together. -/
theorem fits2048 : Fits 2048 := ⟨reduces_S512x2048_S512, iota_S512x2048_d1_w32, broadcasts_S512x1_S512x2048,
  broadcasts_S1x2048_S512x2048, shapeCasts_S1x2048_S1x2048, shapeCasts_S512_S512x1, shapeCasts_S512x1_S1x512⟩

/-- The first target chunk's distances split into 1024 and 512 columns. -/
theorem splits1536 : Splits 1024 1536 := ⟨slices_S512x1536_o0_0_S512x1024, slices_S512x1536_o0_1024_S512x512,
  concatenates_S512x1024_S512x512_S512x1536_d1, iota_S512x512_d0_w32, iota_S512x512_d1_w32⟩

/-- The second target chunk's distances split into 1536 and 512 columns. -/
theorem splits2048 : Splits 1536 2048 := ⟨slices_S512x2048_o0_0_S512x1536, slices_S512x2048_o0_1536_S512x512,
  concatenates_S512x1536_S512x512_S512x2048_d1, iota_S512x512_d0_w32, iota_S512x512_d1_w32⟩

/-- The chunk's own numbers as a column. -/
abbrev ownCol (q : Vec Ideal S1x1x1x512 .f32) : FVec Ideal S512x1 .f32 := k0_pay3 q

/-- The distances of a chunk of the first 1024 points. -/
def dist1024 (q : Vec Ideal S1x1x1x512 .f32) (p : Vec Ideal S1x1x2048 .f32) : FVec Ideal (Blk 1024) .f32 :=
  gaps fits1024 (ownCol q) (k0_pay12 p)

/-- The distances of the third chunk. -/
def dist1536 (q : Vec Ideal S1x1x1x512 .f32) (p : Vec Ideal S1x1x2048 .f32) : FVec Ideal (Blk 1536) .f32 :=
  guarded splits1536 (gaps fits1536 (ownCol q) (k0_pay27 p))

/-- The distances of the fourth chunk. -/
def dist2048 (q : Vec Ideal S1x1x1x512 .f32) (p : Vec Ideal S1x1x2048 .f32) : FVec Ideal (Blk 2048) .f32 :=
  guarded splits2048 (gaps fits2048 (ownCol q) (k0_pay41 p))

/-- The six blocks of a chunk whose neighbours are found by the distances `d` among the first `W` points. -/
def stored {W : Nat} (f : Fits W) (d : FVec Ideal (Blk W) .f32) (px py : FVec Ideal (Line W) .f32) (x y : Vec Ideal S1x1x1x512 .f32) :=
  six shapeCasts_S1x512_S1x1x1x512 (k0_pay1 x) (k0_pay2 y) (found f d px) (found f d py)

/-- One store of a whole block leaves what was stored. -/
theorem put_whole (v : View sig .tc .vmem S1x1x1x512 .f32) (g : v.ty.Contents (Elt Ideal))
    (inb : ∀ a, (![0, 0, 0, 0] : Fin 4 → Nat) a + (![1, 1, 1, 512] : Fin 4 → Nat) a ≤ S1x1x1x512.size a) (w : S1x1x1x512.Idx → Elt Ideal .f32) :
    v.read (Elt Ideal) (v.writes (Elt Ideal) g [⟨Rect.unit (s := S1x1x1x512) ![0, 0, 0, 0] ![1, 1, 1, 512] inb, w⟩]) = w :=
  View.read_writes_full v g inb w []

/-- Loading a whole block of 512 reads it. -/
theorem get_chunk (v : View sig .tc .vmem S1x1x1x512 .f32) (g : v.ty.Contents (Elt Ideal))
    (inb : ∀ a, (![0, 0, 0, 0] : Fin 4 → Nat) a + (![1, 1, 1, 512] : Fin 4 → Nat) a ≤ S1x1x1x512.size a) :
    v.readAt (Elt Ideal) (Rect.unit (s := S1x1x1x512) ![0, 0, 0, 0] ![1, 1, 1, 512] inb).toLoadRect g = v.read (Elt Ideal) g :=
  View.readAt_full v g inb

/-- Loading a whole row of 2048 reads it. -/
theorem get_row (v : View sig .tc .vmem S1x1x2048 .f32) (g : v.ty.Contents (Elt Ideal))
    (inb : ∀ a, (![0, 0, 0] : Fin 3 → Nat) a + (![1, 1, 2048] : Fin 3 → Nat) a ≤ S1x1x2048.size a) :
    v.readAt (Elt Ideal) (Rect.unit (s := S1x1x2048) ![0, 0, 0] ![1, 1, 2048] inb).toLoadRect g = v.read (Elt Ideal) g :=
  View.readAt_full v g inb

variable (V : (c : Dev nD) → (b : Ref sig .tc) → Buf (Elt Ideal) ((c : Thread nD τ).loc b))

/-- What is stored for a context chunk. -/
theorem outs_A (c : Dev nD) (t : Fin cfg0.N) (h0 : t.val % 4 ≤ 1) (h1 : ¬t.val % 4 = 2) (h2 : ¬t.val % 4 = 3) :
    outsAt0 V c t.val t.isLt = stored fits1024 (dist1024 (iblk0 V c 0 t) (iblk0 V c 2 t)) (k0_pay12 (iblk0 V c 2 t)) (k0_pay12 (iblk0 V c 3 t))
      (iblk0 V c 0 t) (iblk0 V c 1 t) := by
  rw [outsAt0_A V c t h0 h1 h2]
  unfold out0_A_4 out0_A_5 out0_A_6 out0_A_7 out0_A_8 out0_A_9 kernelRun0_A
  sl_unfold_words
  simp only [put_whole, get_chunk, get_row, (hs0_0 t).read_unread, (hs0_1 t).read_unread, (hs0_2 t).read_unread, (hs0_3 t).read_unread]
  rfl

/-- What is stored for the first target chunk. -/
theorem outs_B (c : Dev nD) (t : Fin cfg0.N) (h0 : ¬t.val % 4 ≤ 1) (h1 : t.val % 4 = 2) (h2 : ¬t.val % 4 = 3) :
    outsAt0 V c t.val t.isLt = stored fits1536 (dist1536 (iblk0 V c 0 t) (iblk0 V c 2 t)) (k0_pay27 (iblk0 V c 2 t)) (k0_pay28 (iblk0 V c 3 t))
      (iblk0 V c 0 t) (iblk0 V c 1 t) := by
  rw [outsAt0_B V c t h0 h1 h2]
  unfold out0_B_4 out0_B_5 out0_B_6 out0_B_7 out0_B_8 out0_B_9 kernelRun0_B
  sl_unfold_words
  simp only [put_whole, get_chunk, get_row, (hs0_0 t).read_unread, (hs0_1 t).read_unread, (hs0_2 t).read_unread, (hs0_3 t).read_unread]
  rfl

/-- What is stored for the second target chunk. -/
theorem outs_C (c : Dev nD) (t : Fin cfg0.N) (h0 : ¬t.val % 4 ≤ 1) (h1 : ¬t.val % 4 = 2) (h2 : t.val % 4 = 3) :
    outsAt0 V c t.val t.isLt = stored fits2048 (dist2048 (iblk0 V c 0 t) (iblk0 V c 2 t)) (k0_pay41 (iblk0 V c 2 t)) (k0_pay42 (iblk0 V c 3 t))
      (iblk0 V c 0 t) (iblk0 V c 1 t) := by
  rw [outsAt0_C V c t h0 h1 h2]
  unfold out0_C_4 out0_C_5 out0_C_6 out0_C_7 out0_C_8 out0_C_9 kernelRun0_C
  sl_unfold_words
  simp only [put_whole, get_chunk, get_row, (hs0_0 t).read_unread, (hs0_1 t).read_unread, (hs0_2 t).read_unread, (hs0_3 t).read_unread]
  rfl

end Cert.KernelIdeal.Near

end
-- ==== Proof.Spec.lean ====
/-
  The quantities of one batch element: `X` the places of its 2048 points, `Y` their values. The first 1024 points are
  the context, the others the targets.
-/
module

public import proofs.«01_k».proof.Proof.Block

@[expose] public section

noncomputable section

namespace Cert.Near

open Idealize.ShloMosaic

section
variable (X Y : Fin 2048 → EReal) (p : Fin 2048)

/-- The neighbour's place. -/
def placeN : EReal := X (near X p)
/-- The neighbour's value. -/
def valueN : EReal := Y (near X p)
/-- The difference in place to the neighbour. -/
def placeD : EReal := X p - placeN X p
/-- The difference in value to the neighbour. -/
def valueD : EReal := Y p - valueN X Y p
/-- The difference quotient. -/
def ratio : EReal := slope (valueD X Y p) (placeD X p)
/-- The clipped difference quotient. -/
def clipped : EReal := clip (ratio X Y p)
/-- Whether clipping changed nothing. -/
def label : EReal := kept (ratio X Y p)

end

/-- The number of the point at position `r` of chunk `c`. -/
def pos (c : Fin 4) (r : Fin 512) : Fin 2048 := ⟨512 * c.val + r.val, by omega⟩

/-- The chunk in which the first `W` points hold every candidate, and the rest are refused. -/
theorem late_context {c : Fin 4} {r : Fin 512} (hc : c.val ≤ 1) (k : Fin 2048) (hk : 1024 ≤ k.val) : max (pos c r).val 1023 < k.val := by
  show max (512 * c.val + r.val) 1023 < k.val
  omega

/-- The same for a target chunk: what comes after its last point is refused to each of its points. -/
theorem late_target {c : Fin 4} {r : Fin 512} {W : Nat} (hc : 512 * c.val + 512 = W) (hW : 1024 ≤ W) (k : Fin 2048) (hk : W ≤ k.val) :
    max (pos c r).val 1023 < k.val := by
  show max (512 * c.val + r.val) 1023 < k.val
  omega

/-- A block of 512 numbers of one chunk. -/
def tile (g : Fin 2048 → EReal) (c : Fin 4) : Vec Ideal Out .f32 := fun j => g (pos c (j 3))

/-- The six blocks of a chunk, when its neighbours are the right ones. -/
theorem six_eq (h : (Line 512).ShapeCasts Out) (X Y : Fin 2048 → EReal) (c : Fin 4) (x y xn yn : FVec Ideal (Line 512) .f32)
    (hx : ∀ r, (x (ix2 0 r) : EReal) = X (pos c r)) (hy : ∀ r, (y (ix2 0 r) : EReal) = Y (pos c r))
    (hxn : ∀ r, (xn (ix2 0 r) : EReal) = X (near X (pos c r))) (hyn : ∀ r, (yn (ix2 0 r) : EReal) = Y (near X (pos c r))) :
    six h x y xn yn = (tile (valueD X Y) c, tile (placeD X) c, tile (placeN X) c, tile (valueN X Y) c, tile (clipped X Y) c, tile (label X Y) c) := by
  have ho : ∀ (v : FVec Ideal (Line 512) .f32) (g : Fin 2048 → EReal), (∀ r, (v (ix2 0 r) : EReal) = g (pos c r)) →
      shapeCast Out v h = tile g c := fun v g hv => by
    funext j
    obtain ⟨r, rfl⟩ : ∃ r : Fin 512, j = ix4 0 0 0 r := ⟨j 3, funext fun a => by
      fin_cases a <;> first | rfl | exact Subsingleton.elim (α := Fin 1) _ _⟩
    exact (out_at v r).trans (hv r)
  have hxd : ∀ r, (subf x xn (ix2 0 r) : EReal) = placeD X (pos c r) := fun r => by
    show (x (ix2 0 r) - xn (ix2 0 r) : EReal) = _; rw [hx, hxn]; rfl
  have hyd : ∀ r, (subf y yn (ix2 0 r) : EReal) = valueD X Y (pos c r) := fun r => by
    show (y (ix2 0 r) - yn (ix2 0 r) : EReal) = _; rw [hy, hyn]; rfl
  have hq : ∀ r, (slopes (subf y yn) (subf x xn) (ix2 0 r) : EReal) = ratio X Y (pos c r) := fun r => by
    rw [slopes_at, hyd, hxd]; rfl
  unfold six
  rw [ho _ _ hyd, ho _ _ hxd, ho _ (placeN X) hxn, ho _ (valueN X Y) hyn, ho _ (clipped X Y) fun r => by rw [clips_at, hq]; rfl,
    ho _ (label X Y) fun r => by rw [marks_at, hq]; rfl]

end Cert.Near

end
-- ==== Proof.Arrays.lean ====
/-
  What the neighbour kernel leaves in its six result arrays: at each place the quantity of that point.
-/
module

public import proofs.«01_k».proof.Proof.Chunk
public import proofs.«01_k».proof.Proof.Spec
public import Idealize.ShloMosaic.Lib.Pipeline.Value

@[expose] public section

set_option maxRecDepth 16384

noncomputable section

namespace Cert.KernelIdeal.Near

open Idealize.ShloMosaic Idealize.ShloMosaic.TcCoe Idealize.SL.Sem
open Idealize.ShloMosaic.Pipeline (Dat)
open Cert.KernelIdeal.Gen Cert.Near

/-- The batch element of a grid point. -/
def batch (t : Fin cfg0.N) : Fin 8 := ⟨t.val / 4, by have : t.val < 32 := lt_of_lt_of_eq t.isLt N_0; omega⟩
/-- The chunk of a grid point. -/
def chunk (t : Fin cfg0.N) : Fin 4 := ⟨t.val % 4, by omega⟩

/-- The quantity `g` of every point, set out in chunks. -/
def spread (g : Fin 8 → Fin 2048 → EReal) : FVec Ideal S8x4x1x512 .f32 := fun i => g (i 0) (pos (i 1) (i 3))

/-- Grid point `t` works on chunk `t % 4` of batch element `t / 4`. -/
theorem index_chunk : ∀ (t : Fin cfg0.N) (a : Fin 4), win0_0.index t a = (![t.val / 4, t.val % 4, 0, 0] : Fin 4 → Nat) a := by
  decide +kernel

/-- Grid point `t` is given the whole row of batch element `t / 4`. -/
theorem index_row : ∀ (t : Fin cfg0.N) (a : Fin 3), win0_2.index t a = (![t.val / 4, 0, 0] : Fin 3 → Nat) a := by
  decide +kernel

/-- A place of a grid point's block is the place of its chunk in the array. -/
theorem place_chunk (t : Fin cfg0.N) (r : Fin 512) :
    ((cfg0.win 0).blk t).view.emb (ix4 0 0 0 r) = (ix4 (batch t) (chunk t) 0 r : S8x4x1x512.Idx) := by
  funext a
  refine Fin.ext ?_
  have h := index_chunk t a
  have e : (((cfg0.win 0).blk t).view.emb (ix4 0 0 0 r) a).val = win0_0.index t a * S1x1x1x512.size a + 1 * ((ix4 0 0 0 r : S1x1x1x512.Idx) a).val := rfl
  rw [e, h]
  fin_cases a <;> simp [ix4, batch, chunk]

/-- Position `k` of that row is position `k` of the array's row. -/
theorem place_row (t : Fin cfg0.N) (k : Fin 2048) :
    ((cfg0.win 2).blk t).view.emb (ix3 0 0 k) = (ix3 (batch t) 0 k : S8x1x2048.Idx) := by
  funext a
  refine Fin.ext ?_
  have h := index_row t a
  have e : (((cfg0.win 2).blk t).view.emb (ix3 0 0 k) a).val = win0_2.index t a * S1x1x2048.size a + 1 * ((ix3 0 0 k : S1x1x2048.Idx) a).val := rfl
  rw [e, h]
  fin_cases a <;> simp [ix3, batch]

variable (V : (c : Dev nD) → (b : Ref sig .tc) → Buf (Elt Ideal) ((c : Thread nD τ).loc b))

/-- On entry the kernel's four operand arrays hold the places `X` and the values `Y`, in chunks and in rows. -/
structure Entry (c : Dev nD) (X Y : Fin 8 → Fin 2048 → EReal) : Prop where
  x : ∀ b k r, (V c main_v0 (ix4 b k 0 r) : EReal) = X b (pos k r)
  y : ∀ b k r, (V c main_v1 (ix4 b k 0 r) : EReal) = Y b (pos k r)
  px : ∀ b k, (V c main_v2 (ix3 b 0 k) : EReal) = X b k
  py : ∀ b k, (V c main_v3 (ix3 b 0 k) : EReal) = Y b k
  small : ∀ b, Small (X b)

variable {V} {c : Dev nD} {X Y : Fin 8 → Fin 2048 → EReal}

/-- The chunk of places given to a grid point. -/
theorem Entry.own_x (h : Entry V c X Y) (t : Fin cfg0.N) (r : Fin 512) : (iblk0 V c 0 t (ix4 0 0 0 r) : EReal) = X (batch t) (pos (chunk t) r) :=
  (congrArg (V c main_v0) (place_chunk t r)).trans (h.x _ _ _)

/-- The chunk of values given to a grid point. -/
theorem Entry.own_y (h : Entry V c X Y) (t : Fin cfg0.N) (r : Fin 512) : (iblk0 V c 1 t (ix4 0 0 0 r) : EReal) = Y (batch t) (pos (chunk t) r) :=
  (congrArg (V c main_v1) (place_chunk t r)).trans (h.y _ _ _)

/-- The row of places given to a grid point. -/
theorem Entry.all_x (h : Entry V c X Y) (t : Fin cfg0.N) (k : Fin 2048) : (iblk0 V c 2 t (ix3 0 0 k) : EReal) = X (batch t) k :=
  (congrArg (V c main_v2) (place_row t k)).trans (h.px _ _)

/-- The row of values given to a grid point. -/
theorem Entry.all_y (h : Entry V c X Y) (t : Fin cfg0.N) (k : Fin 2048) : (iblk0 V c 3 t (ix3 0 0 k) : EReal) = Y (batch t) k :=
  (congrArg (V c main_v3) (place_row t k)).trans (h.py _ _)

/-- A chunk's numbers as a row. -/
theorem row_at (q : Vec Ideal S1x1x1x512 .f32) (r : Fin 512) : k0_pay1 q (ix2 0 r) = q (ix4 0 0 0 r) := by
  unfold k0_pay1; pointwise

/-- A chunk's numbers as a column. -/
theorem ownCol_at (q : Vec Ideal S1x1x1x512 .f32) (r : Fin 512) : ownCol q (ix2 r 0) = q (ix4 0 0 0 r) :=
  (stand_at _ _ r).trans (row_at q r)

/-- The first points of a row. -/
theorem pay12_at (p : Vec Ideal S1x1x2048 .f32) (k : Fin 1024) : k0_pay12 p (ix2 0 k) = p (ix3 0 0 (k.castLE (by decide))) := by
  unfold k0_pay12; pointwise; rfl

/-- The first 1536 numbers of a row. -/
theorem pay27_at (p : Vec Ideal S1x1x2048 .f32) (k : Fin 1536) : k0_pay27 p (ix2 0 k) = p (ix3 0 0 (k.castLE (by decide))) := by
  unfold k0_pay27; pointwise; rfl

/-- All 2048 numbers of a row. -/
theorem pay41_at (p : Vec Ideal S1x1x2048 .f32) (k : Fin 2048) : k0_pay41 p (ix2 0 k) = p (ix3 0 0 (k.castLE (by decide))) := by
  unfold k0_pay41; pointwise; rfl

/-- The blocks a grid point stores hold the quantities of its chunk, when its distances are those of the rows. -/
theorem Entry.stored_eq (h : Entry V c X Y) (t : Fin cfg0.N) {W : Nat} (f : Fits W) (hw : W ≤ 2048) (d : FVec Ideal (Blk W) .f32)
    (px py : FVec Ideal (Line W) .f32) (hlate : ∀ (r : Fin 512) (k : Fin 2048), W ≤ k.val → max (pos (chunk t) r).val 1023 < k.val)
    (hpx : ∀ k : Fin W, (px (ix2 0 k) : EReal) = X (batch t) (k.castLE hw)) (hpy : ∀ k : Fin W, (py (ix2 0 k) : EReal) = Y (batch t) (k.castLE hw))
    (hd : ∀ r k, (d (ix2 r k) : EReal) = row (X (batch t)) (pos (chunk t) r) (k.castLE hw)) :
    stored f d px py (iblk0 V c 0 t) (iblk0 V c 1 t)
      = (tile (valueD (X (batch t)) (Y (batch t))) (chunk t), tile (placeD (X (batch t))) (chunk t), tile (placeN (X (batch t))) (chunk t),
        tile (valueN (X (batch t)) (Y (batch t))) (chunk t), tile (clipped (X (batch t)) (Y (batch t))) (chunk t), tile (label (X (batch t)) (Y (batch t))) (chunk t)) :=
  six_eq _ (X (batch t)) (Y (batch t)) (chunk t) _ _ _ _ (fun r => (row_at _ r).trans (h.own_x t r)) (fun r => (row_at _ r).trans (h.own_y t r))
    (fun r => found_at f hw (h.small _) _ (hlate r) d r (hd r) px _ hpx) (fun r => found_at f hw (h.small _) _ (hlate r) d r (hd r) py _ hpy)

/-- What a grid point stores: its chunk of each of the six quantities. -/
theorem Entry.outs_eq (h : Entry V c X Y) (t : Fin cfg0.N) : outsAt0 V c t.val t.isLt
      = (tile (valueD (X (batch t)) (Y (batch t))) (chunk t), tile (placeD (X (batch t))) (chunk t), tile (placeN (X (batch t))) (chunk t),
        tile (valueN (X (batch t)) (Y (batch t))) (chunk t), tile (clipped (X (batch t)) (Y (batch t))) (chunk t), tile (label (X (batch t)) (Y (batch t))) (chunk t)) := by
  have hp : ∀ r, (pos (chunk t) r).val = 512 * (t.val % 4) + r.val := fun r => rfl
  by_cases h0 : t.val % 4 ≤ 1
  · rw [outs_A V c t h0 (by omega) (by omega)]
    refine h.stored_eq t fits1024 (by decide) _ _ _ (fun r => late_context h0) (fun k => (pay12_at _ k).trans (h.all_x t _))
      (fun k => (pay12_at _ k).trans (h.all_y t _)) fun r k => ?_
    rw [row_admitted (h.small _) (by have := k.isLt; show ¬ _ < k.val; omega)]
    refine (gaps_at fits1024 _ _ r k).trans ?_
    rw [ownCol_at, pay12_at, h.own_x, h.all_x]
  · by_cases h1 : t.val % 4 = 2
    · rw [outs_B V c t h0 h1 (by omega)]
      refine h.stored_eq t fits1536 (by decide) _ _ _ (fun r => late_target (by show 512 * (t.val % 4) + 512 = 1536; omega) (by decide))
        (fun k => (pay27_at _ k).trans (h.all_x t _)) (fun k => (pay27_at _ k).trans (h.all_y t _)) fun r k => ?_
      refine (guarded_at splits1536 _ r k).trans ?_
      rw [gaps_at, ownCol_at, pay27_at, h.own_x, h.all_x]
      unfold row
      congr 1
      refine if_congr ?_ rfl rfl
      rw [hp, h1]; show _ ↔ _ < k.val; omega
    · have h2 : t.val % 4 = 3 := by omega
      rw [outs_C V c t h0 h1 h2]
      refine h.stored_eq t fits2048 (by decide) _ _ _ (fun r => late_target (by show 512 * (t.val % 4) + 512 = 2048; omega) (by decide))
        (fun k => (pay41_at _ k).trans (h.all_x t _)) (fun k => (pay41_at _ k).trans (h.all_y t _)) fun r k => ?_
      refine (guarded_at splits2048 _ r k).trans ?_
      rw [gaps_at, ownCol_at, pay41_at, h.own_x, h.all_x]
      unfold row
      congr 1
      refine if_congr ?_ rfl rfl
      rw [hp, h2]; show _ ↔ _ < k.val; omega

/-- A block of a chunk is the array of the quantity, read at the grid point's block. -/
theorem tile_eq (g : Fin 8 → Fin 2048 → EReal) (t : Fin cfg0.N) :
    (tile (g (batch t)) (chunk t) : S1x1x1x512.Idx → EReal) = fun j => spread g (((cfg0.win 0).blk t).view.emb j) := by
  funext j
  obtain ⟨r, rfl⟩ : ∃ r : Fin 512, j = ix4 0 0 0 r := ⟨j 3, funext fun a => by
    fin_cases a <;> first | rfl | exact Subsingleton.elim (α := Fin 1) _ _⟩
  rw [place_chunk]; rfl

/-- Every place of a result array is in the block of a grid point. -/
theorem covered (i : S8x4x1x512.Idx) : ∃ (t : Fin cfg0.N) (r : Fin 512), ((cfg0.win 0).blk t).view.emb (ix4 0 0 0 r) = i := by
  have h0 : (i 0 : Nat) < 8 := (i 0).isLt
  have h1 : (i 1 : Nat) < 4 := (i 1).isLt
  refine ⟨⟨4 * (i 0).val + (i 1).val, lt_of_lt_of_eq (by omega) N_0.symm⟩, i 3, ?_⟩
  refine (place_chunk _ _).trans (funext fun a => ?_)
  fin_cases a
  · exact Fin.ext (by show (4 * (i 0).val + (i 1).val) / 4 = (i 0).val; omega)
  · exact Fin.ext (by show (4 * (i 0).val + (i 1).val) % 4 = (i 1).val; omega)
  · exact Subsingleton.elim (α := Fin 1) _ _
  · rfl

/-- The array of the differences in value. -/
theorem Entry.array4 (h : Entry V c X Y) : (dat0 V c).arrAt 4 cfg0.N = spread fun b => valueD (X b) (Y b) :=
  Dat.arrAt_eq_of_cover _ 4 _ (fun t _ => by
    show (cfg0.win 4).cut (grid0.coords t) ((dat0 V c).after 4 t) = _
    rw [after0_4, h.outs_eq]; exact tile_eq (fun b => valueD (X b) (Y b)) t)
    fun i => by obtain ⟨t, r, e⟩ := covered i; exact ⟨t, flush0_4 t, e ▸ ((cfg0.win 4).blk t).view.emb_mem_set (ix4 0 0 0 r)⟩

/-- The array of the differences in place. -/
theorem Entry.array5 (h : Entry V c X Y) : (dat0 V c).arrAt 5 cfg0.N = spread fun b => placeD (X b) :=
  Dat.arrAt_eq_of_cover _ 5 _ (fun t _ => by
    show (cfg0.win 5).cut (grid0.coords t) ((dat0 V c).after 5 t) = _
    rw [after0_5, h.outs_eq]; exact tile_eq (fun b => placeD (X b)) t)
    fun i => by obtain ⟨t, r, e⟩ := covered i; exact ⟨t, flush0_5 t, e ▸ ((cfg0.win 5).blk t).view.emb_mem_set (ix4 0 0 0 r)⟩

/-- The array of the neighbours' places. -/
theorem Entry.array6 (h : Entry V c X Y) : (dat0 V c).arrAt 6 cfg0.N = spread fun b => placeN (X b) :=
  Dat.arrAt_eq_of_cover _ 6 _ (fun t _ => by
    show (cfg0.win 6).cut (grid0.coords t) ((dat0 V c).after 6 t) = _
    rw [after0_6, h.outs_eq]; exact tile_eq (fun b => placeN (X b)) t)
    fun i => by obtain ⟨t, r, e⟩ := covered i; exact ⟨t, flush0_6 t, e ▸ ((cfg0.win 6).blk t).view.emb_mem_set (ix4 0 0 0 r)⟩

/-- The array of the neighbours' values. -/
theorem Entry.array7 (h : Entry V c X Y) : (dat0 V c).arrAt 7 cfg0.N = spread fun b => valueN (X b) (Y b) :=
  Dat.arrAt_eq_of_cover _ 7 _ (fun t _ => by
    show (cfg0.win 7).cut (grid0.coords t) ((dat0 V c).after 7 t) = _
    rw [after0_7, h.outs_eq]; exact tile_eq (fun b => valueN (X b) (Y b)) t)
    fun i => by obtain ⟨t, r, e⟩ := covered i; exact ⟨t, flush0_7 t, e ▸ ((cfg0.win 7).blk t).view.emb_mem_set (ix4 0 0 0 r)⟩

/-- The array of the clipped quotients. -/
theorem Entry.array8 (h : Entry V c X Y) : (dat0 V c).arrAt 8 cfg0.N = spread fun b => clipped (X b) (Y b) :=
  Dat.arrAt_eq_of_cover _ 8 _ (fun t _ => by
    show (cfg0.win 8).cut (grid0.coords t) ((dat0 V c).after 8 t) = _
    rw [after0_8, h.outs_eq]; exact tile_eq (fun b => clipped (X b) (Y b)) t)
    fun i => by obtain ⟨t, r, e⟩ := covered i; exact ⟨t, flush0_8 t, e ▸ ((cfg0.win 8).blk t).view.emb_mem_set (ix4 0 0 0 r)⟩

/-- The array of the labels. -/
theorem Entry.array9 (h : Entry V c X Y) : (dat0 V c).arrAt 9 cfg0.N = spread fun b => label (X b) (Y b) :=
  Dat.arrAt_eq_of_cover _ 9 _ (fun t _ => by
    show (cfg0.win 9).cut (grid0.coords t) ((dat0 V c).after 9 t) = _
    rw [after0_9, h.outs_eq]; exact tile_eq (fun b => label (X b) (Y b)) t)
    fun i => by obtain ⟨t, r, e⟩ := covered i; exact ⟨t, flush0_9 t, e ▸ ((cfg0.win 9).blk t).view.emb_mem_set (ix4 0 0 0 r)⟩

end Cert.KernelIdeal.Near

end
-- ==== Proof.Standard.lean ====
/-
  Standardising a family of numbers: the mean, the mean square about it, and the scaled and shifted quotient by its root.
-/
module

public import proofs.«01_k».proof.Proof.Spec
public import Idealize.ShloMosaic.PureOps.Ideal.Laws
public import Idealize.ShloMosaic.Lib.Pipeline.Value

@[expose] public section

noncomputable section

namespace Cert.Near

open Idealize.ShloMosaic

variable {ι κ : Type} [Fintype ι] [Fintype κ]

/-- The sum of the numbers over 16384, the number of points there are. -/
def mean (D : ι → EReal) : EReal := Ideal.div (∑ i, D i) (Ideal.ofBits .f32 0x46800000#32)

/-- The square of the distance of a number from the mean. -/
def squared (D : ι → EReal) (i : ι) : EReal := (D i - mean D) * (D i - mean D)

/-- The number `D i` less the mean, times `g`, over the root of the mean square plus a small constant, plus `b`. -/
def standard (g b : EReal) (D : ι → EReal) (i : ι) : EReal :=
  Ideal.div (g * (D i - mean D)) (Ideal.sqrt (mean (squared D) + Ideal.ofBits .f32 0x3A83126F#32)) + b

/-- The mean does not depend on how the numbers are set out. -/
theorem mean_comp (e : ι ≃ κ) (D : κ → EReal) : mean (fun i => D (e i)) = mean D :=
  congrArg (Ideal.div · _) (Equiv.sum_comp e D)

/-- Nor does the standardised number. -/
theorem standard_comp (e : ι ≃ κ) (g b : EReal) (D : κ → EReal) (i : ι) : standard g b (fun i => D (e i)) i = standard g b D (e i) := by
  have h : squared (fun i => D (e i)) = fun i => squared D (e i) := funext fun i => by unfold squared; rw [mean_comp]
  unfold standard
  rw [h, mean_comp, mean_comp]

/-- An array's numbers sum to the same however it is reshaped. -/
theorem sum_recast {s t : Shape} (v : s.Idx → EReal) (h : s.ShapeCasts t) : ∑ i, shapeCast (α := EReal) t v h i = ∑ i, v i :=
  Equiv.sum_comp (Shape.reshapeEquiv _) v

/-- An array standardised in another layout and set out as it was is standardised as it is. -/
theorem standard_recast {s t : Shape} (g b : EReal) (v : s.Idx → EReal) (h : s.ShapeCasts t) (h' : t.ShapeCasts s) :
    shapeCast (α := EReal) s (fun i => standard g b (shapeCast (α := EReal) t v h) i) h' = fun i => standard g b v i := by
  funext i
  have hi := congrFun (shapeCast_shapeCast (fun k : s.Idx => k) h h') i
  exact (standard_comp (Shape.reshapeEquiv _) g b v _).trans (congrArg (standard g b v) hi)

/-- The shape of the arrays of one number for each point: 8 rows of 2048 points. -/
abbrev Pts : Shape := ⟨3, ![8, 2048, 1]⟩

/-- The numbers of an array, by row and point. -/
def points (v : FVec Ideal Pts .f32) : Fin 8 → Fin 2048 → EReal := fun b p => v (ix3 b p 0)

/-- The array of the numbers `g`. -/
def lay (g : Fin 8 → Fin 2048 → EReal) : FVec Ideal Pts .f32 := fun i => g (i 0) (i 1)

/-- An index is its row and point: the last coordinate is zero. -/
theorem pts_eq (i : Pts.Idx) : i = ix3 (i 0) (i 1) 0 := funext fun a => by
  fin_cases a <;> first | rfl | exact Subsingleton.elim (α := Fin 1) _ _

/-- Setting out an array's own numbers gives the array. -/
theorem lay_points (v : FVec Ideal Pts .f32) : lay (points v) = v := funext fun i => congrArg v (pts_eq i).symm

/-- In chunks of 512, point `512 k + r` is at position `r` of chunk `k`. -/
theorem chunked_at (v : FVec Ideal Pts .f32) (h : Pts.ShapeCasts ⟨4, ![8, 4, 1, 512]⟩) (b : Fin 8) (k : Fin 4) (r : Fin 512) :
    (shapeCast ⟨4, ![8, 4, 1, 512]⟩ v h (ix4 b k 0 r) : EReal) = points v b (pos k r) := by
  refine shapeCast_apply v h _ (ix3 b (pos k r) 0) ?_
  rw [Shape.rowMajor_val_three, Shape.rowMajor_val_four]
  show (b.val * 2048 + (512 * k.val + r.val)) * 1 + 0 = ((b.val * 4 + k.val) * 1 + 0) * 512 + r.val
  omega

/-- In rows, the point is at its place. -/
theorem rowed_at (v : FVec Ideal Pts .f32) (h : Pts.ShapeCasts ⟨3, ![8, 1, 2048]⟩) (b : Fin 8) (k : Fin 2048) :
    (shapeCast ⟨3, ![8, 1, 2048]⟩ v h (ix3 b 0 k) : EReal) = points v b k := by
  refine shapeCast_apply v h _ (ix3 b k 0) ?_
  rw [Shape.rowMajor_val_three, Shape.rowMajor_val_three]
  show (b.val * 2048 + k.val) * 1 + 0 = (b.val * 1 + 0) * 2048 + k.val
  omega

/-- Numbers set out in chunks of 512, reshaped to one row of points each. -/
theorem gathered (g : Fin 8 → Fin 2048 → EReal) (h : (⟨4, ![8, 4, 1, 512]⟩ : Shape).ShapeCasts Pts) :
    shapeCast Pts (fun i : (⟨4, ![8, 4, 1, 512]⟩ : Shape).Idx => g (i 0) (pos (i 1) (i 3))) h = (lay g : Pts.Idx → EReal) := by
  funext i
  obtain ⟨b, p, rfl⟩ : ∃ b p, i = ix3 b p 0 := ⟨i 0, i 1, pts_eq i⟩
  have hp := p.isLt
  refine (shapeCast_apply _ h _ (ix4 b ⟨p.val / 512, by omega⟩ 0 ⟨p.val % 512, by omega⟩) ?_).trans ?_
  · rw [Shape.rowMajor_val_three, Shape.rowMajor_val_four]
    show ((b.val * 4 + p.val / 512) * 1 + 0) * 512 + p.val % 512 = (b.val * 2048 + p.val) * 1 + 0
    omega
  · exact congrArg (g b) (Fin.ext (by show 512 * (p.val / 512) + p.val % 512 = p.val; omega))

end Cert.Near

end
-- ==== Proof.Norm.lean ====
/-
  The standardising kernel: its result array is its operand array standardised.
-/
module

public import proofs.«01_k».proof.Proof.Gen.KernelIdeal.Frame
public import proofs.«01_k».proof.Proof.Standard
public import Idealize.ShloMosaic.Lib.VecWindow
public import Idealize.ShloMosaic.Lib.Pipeline.Value

@[expose] public section

set_option maxRecDepth 16384

noncomputable section

namespace Cert.KernelIdeal.Near

open Idealize.ShloMosaic Idealize.ShloMosaic.TcCoe Idealize.SL.Sem
open Idealize.ShloMosaic.Pipeline (Dat)
open Cert.KernelIdeal.Gen Cert.Near

/-- One sum over a square of numbers, as the kernel takes it. -/
def whole (v : FVec Ideal S128x128 .f32) : EReal :=
  extractAt ![0, 0, 0] (shapeCast S1x1x1 (multiReduction .add [1, 2] S1 (shapeCast S1x128x128 v shapeCasts_S128x128_S1x128x128)
    0x00000000#32 reduces_S1x128x128_S1 (.inl rfl) rfl) shapeCasts_S1_S1x1x1) inpos_S1x1x1_p0_0_0

/-- The sum taken over the square is the sum of all its numbers. -/
theorem whole_eq (v : FVec Ideal S128x128 .f32) : whole v = ∑ i, (v i : EReal) :=
  (Ideal.multiReduction_add_total (s := S1x128x128) (t := S1) _ 0x00000000#32 _ (by decide) (.inl rfl) rfl _).trans (sum_recast v _)

/-- The numbers less their mean. -/
def centred (v : FVec Ideal S128x128 .f32) : FVec Ideal S128x128 .f32 := fun i => v i - Ideal.div (whole v) (Ideal.ofBits .f32 0x46800000#32)

/-- That sum over 16384 is the mean. -/
theorem whole_mean (v : FVec Ideal S128x128 .f32) : Ideal.div (whole v) (Ideal.ofBits .f32 0x46800000#32) = mean (fun k => (v k : EReal)) :=
  congrArg (Ideal.div · _) (whole_eq v)

/-- What the kernel stores is its operand standardised. -/
theorem pay_eq (v : Vec Ideal S128x128 .f32) (g b : Elt Ideal .f32) : k1_pay1 v g b = fun i => standard g b (fun k => (v k : EReal)) i := by
  have hc : shapeCast S128x128 v shapeCasts_S128x128_S128x128 = v := shapeCast_self _ _
  funext i
  unfold k1_pay1
  rw [hc]
  have hs : (fun k => (mulf (centred v) (centred v) k : EReal)) = squared (fun k => (v k : EReal)) := funext fun k => by
    show ((v k : EReal) - _) * (v k - _) = _
    rw [whole_mean]; rfl
  show Ideal.div (g * (v i - Ideal.div (whole v) (Ideal.ofBits .f32 0x46800000#32)))
    (Ideal.sqrt (Ideal.div (whole (mulf (centred v) (centred v))) (Ideal.ofBits .f32 0x46800000#32) + Ideal.ofBits .f32 0x3A83126F#32)) + b = _
  rw [whole_mean, whole_mean, hs]; rfl

/-- After a square is stored whole, the buffer reads as the square. -/
theorem put_square (v : View sig .tc .vmem S128x128 .f32) (g : v.ty.Contents (Elt Ideal))
    (inb : ∀ a, (![0, 0] : Fin 2 → Nat) a + (![128, 128] : Fin 2 → Nat) a ≤ S128x128.size a) (w : S128x128.Idx → Elt Ideal .f32) :
    v.read (Elt Ideal) (v.writes (Elt Ideal) g [⟨Rect.unit (s := S128x128) ![0, 0] ![128, 128] inb, w⟩]) = w :=
  View.read_writes_full v g inb w []

/-- Loading a whole square gives what the buffer reads as. -/
theorem get_square (v : View sig .tc .vmem S128x128 .f32) (g : v.ty.Contents (Elt Ideal))
    (inb : ∀ a, (![0, 0] : Fin 2 → Nat) a + (![128, 128] : Fin 2 → Nat) a ≤ S128x128.size a) :
    v.readAt (Elt Ideal) (Rect.unit (s := S128x128) ![0, 0] ![128, 128] inb).toLoadRect g = v.read (Elt Ideal) g :=
  View.readAt_full v g inb

/-- Loading a single number gives what the buffer reads as. -/
theorem get_one (v : View sig .tc .smem S1x1 .f32) (g : v.ty.Contents (Elt Ideal))
    (inb : ∀ a, (![0, 0] : Fin 2 → Nat) a + (![1, 1] : Fin 2 → Nat) a ≤ S1x1.size a) :
    v.readAt (Elt Ideal) (Rect.unit (s := S1x1) ![0, 0] ![1, 1] inb).toLoadRect g = v.read (Elt Ideal) g :=
  View.readAt_full v g inb

/-- A one by one array has one entry. -/
theorem at_one (v : Vec Ideal S1x1 .f32) (j : S1x1.Idx) : v j = v (ix2 0 0) :=
  congrArg v (funext fun a => by fin_cases a <;> exact Subsingleton.elim (α := Fin 1) _ _)

variable (V : (c : Dev nD) → (b : Ref sig .tc) → Buf (Elt Ideal) ((c : Thread nD τ).loc b))

/-- What the standardising kernel stores, from its three operands. -/
theorem outs1_eq (c : Dev nD) (t : Fin cfg1.N) :
    outsAt1 V c t = k1_pay1 (iblk1 V c 0 t) (iblk1 V c 1 t (ix2 0 0)) (iblk1 V c 2 t (ix2 0 0)) := by
  unfold outsAt1 out1_A_3 kernelRun1_A
  sl_unfold_words
  simp only [put_square, get_square, (hs1_0 t).read_unread, (hs1_1 t).read_unread, (hs1_2 t).read_unread]
  refine congrArg₂ (k1_pay1 _) ?_ ?_
  · exact (congrFun ((get_one _ _ _).trans ((hs1_1 t).read_unread (iblk1 V c 1 t))) _).trans (at_one _ _)
  · exact (congrFun ((get_one _ _ _).trans ((hs1_2 t).read_unread (iblk1 V c 2 t))) _).trans (at_one _ _)

/-- The only block of the operand and of the result is the whole square. -/
theorem index_square : ∀ (t : Fin cfg1.N) (a : Fin 2), win1_0.index t a = 0 ∧ win1_3.index t a = 0 := by decide +kernel

/-- The one block of the operand, and of the result, is the whole array. -/
theorem place_square (t : Fin cfg1.N) (i : S128x128.Idx) : ((cfg1.win 3).blk t).view.emb i = i := by
  funext a
  refine Fin.ext ?_
  have e : (((cfg1.win 3).blk t).view.emb i a).val = win1_3.index t a * S128x128.size a + 1 * (i a).val := rfl
  rw [e, (index_square t a).2]; omega

/-- So each position of the block is the same position of the array. -/
theorem place_operand (t : Fin cfg1.N) (i : S128x128.Idx) : ((cfg1.win 0).blk t).view.emb i = i := by
  funext a
  refine Fin.ext ?_
  have e : (((cfg1.win 0).blk t).view.emb i a).val = win1_0.index t a * S128x128.size a + 1 * (i a).val := rfl
  rw [e, (index_square t a).1]; omega

/-- The result array: the operand array standardised with the scale and the shift. -/
theorem array_square (c : Dev nD) : (dat1 V c).arrAt 3 cfg1.N
    = (fun i => standard (V c main_v12 (ix2 0 0)) (V c main_v13 (ix2 0 0)) (fun k => (V c main_v11 k : EReal)) i : FVec Ideal S128x128 .f32) :=
  Dat.arrAt_eq_of_cover _ 3 _ (fun t _ => by
    show (cfg1.win 3).cut (grid1.coords t) ((dat1 V c).after 3 t) = _
    rw [after1_3, outs1_eq, pay_eq]
    funext j
    have h0 : (fun k => (iblk1 V c 0 t k : EReal)) = fun k => (V c main_v11 k : EReal) :=
      funext fun k => congrArg (V c main_v11) (place_operand t k)
    have h1 : (iblk1 V c 1 t (ix2 0 0) : EReal) = V c main_v12 (ix2 0 0) := at_one (V c main_v12) _
    have h2 : (iblk1 V c 2 t (ix2 0 0) : EReal) = V c main_v13 (ix2 0 0) := at_one (V c main_v13) _
    show standard (iblk1 V c 1 t (ix2 0 0)) (iblk1 V c 2 t (ix2 0 0)) (fun k => (iblk1 V c 0 t k : EReal)) j
      = standard _ _ _ (((cfg1.win 3).blk t).view.emb j)
    rw [h0, h1, h2, place_square])
    fun i => ⟨⟨0, by decide⟩, flush1_3 _, by
      have h := ((cfg1.win 3).blk (⟨0, by decide⟩ : Fin cfg1.N)).view.emb_mem_set i
      rwa [place_square] at h⟩

end Cert.KernelIdeal.Near

end
-- ==== Proof.Ends.lean ====
/-
  What the kernel's program leaves in its five results, as functions of its arguments.
-/
module

public import proofs.«01_k».proof.Proof.Arrays
public import proofs.«01_k».proof.Proof.Norm
public import Idealize.ShloMosaic.Lib.ValueLayoutCasts

@[expose] public section

set_option maxRecDepth 16384

noncomputable section

namespace Cert.KernelIdeal.Near

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Near

local notation "𝕄" => MT nD τ sig Unit (Elt Ideal) ℕ (UR sig nD τ) ℕ

variable (m : (ℓ : Loc nD τ sig) → Buf (Elt Ideal) ℓ) (ρ : Dev nD → PrngReg)

/-- The places of the points of a launch, by row and point. -/
def places (c : Dev nD) : Fin 8 → Fin 2048 → EReal := points (m ((c : Thread nD τ).loc main_arg1))
/-- Their values. -/
def values (c : Dev nD) : Fin 8 → Fin 2048 → EReal := points (m ((c : Thread nD τ).loc main_arg0))

/-- The neighbour kernel is entered with the places and the values, in chunks and in rows. -/
theorem entry (c : Dev nD) (h : ∀ b, Small (places m c b)) : Entry (V1 m ρ) c (places m c) (values m c) where
  x b k r := by
    have e : V1 m ρ c main_v0 = shapeCast S8x4x1x512 (m ((c : Thread nD τ).loc main_arg1)) shapeCasts_S8x2048x1_S8x4x1x512 := by
      show StableHlo.after hostOps0 _ _ = _; after_results_simp; rfl
    rw [e]; exact chunked_at _ _ b k r
  y b k r := by
    have e : V1 m ρ c main_v1 = shapeCast S8x4x1x512 (m ((c : Thread nD τ).loc main_arg0)) shapeCasts_S8x2048x1_S8x4x1x512 := by
      show StableHlo.after hostOps0 _ _ = _; after_results_simp; rfl
    rw [e]; exact chunked_at _ _ b k r
  px b k := by
    have e : V1 m ρ c main_v2 = shapeCast S8x1x2048 (m ((c : Thread nD τ).loc main_arg1)) shapeCasts_S8x2048x1_S8x1x2048 := by
      show StableHlo.after hostOps0 _ _ = _; after_results_simp; rfl
    rw [e]; exact rowed_at _ _ b k
  py b k := by
    have e : V1 m ρ c main_v3 = shapeCast S8x1x2048 (m ((c : Thread nD τ).loc main_arg0)) shapeCasts_S8x2048x1_S8x1x2048 := by
      show StableHlo.after hostOps0 _ _ = _; after_results_simp; rfl
    rw [e]; exact rowed_at _ _ b k
  small := h

/-- An array no later step writes ends as the second stretch of host operations left it. -/
theorem kept_late (c : Dev nD) (r : Ref sig .tc) (h2 : r ∉ hostOps2_W) (h1 : ∀ w : Fin cfg1.W, Pipeline.arrRef spec1 w = r → (cfg1.win w).isOut = false) :
    W5 m ρ c (Proc.devRef .tc r) = W3 m ρ c (Proc.devRef .tc r) := (W5_of m ρ c r h2).trans (W4_of m ρ c r h1)

variable {m} (c : Dev nD) (h : ∀ b, Small (places m c b))
include h

/-- The first result: the differences in value. -/
theorem end_valueD : W5 m ρ c (Proc.devRef .tc main_v5) = lay fun b => valueD (places m c b) (values m c b) := by
  refine (kept_late m ρ c main_v5 (by decide) (by decide)).trans ?_
  have e : W3 m ρ c (Proc.devRef .tc main_v5) = shapeCast S8x2048x1 (W2 m ρ c (Proc.devRef .tc main_v4_0)) shapeCasts_S8x4x1x512_S8x2048x1 := by
    show StableHlo.after hostOps1 _ _ = _; after_results_simp; rfl
  have e' : W2 m ρ c (Proc.devRef .tc main_v4_0) = _ := (W2_arr m ρ c 4).trans (entry m ρ c h).array4
  rw [e, e']; exact gathered (fun b => valueD (places m c b) (values m c b)) _

/-- The second result: the differences in place. -/
theorem end_placeD : W5 m ρ c (Proc.devRef .tc main_v6) = lay fun b => placeD (places m c b) := by
  refine (kept_late m ρ c main_v6 (by decide) (by decide)).trans ?_
  have e : W3 m ρ c (Proc.devRef .tc main_v6) = shapeCast S8x2048x1 (W2 m ρ c (Proc.devRef .tc main_v4_1)) shapeCasts_S8x4x1x512_S8x2048x1 := by
    show StableHlo.after hostOps1 _ _ = _; after_results_simp; rfl
  have e' : W2 m ρ c (Proc.devRef .tc main_v4_1) = _ := (W2_arr m ρ c 5).trans (entry m ρ c h).array5
  rw [e, e']; exact gathered (fun b => placeD (places m c b)) _

/-- The fourth result: the neighbours' places. -/
theorem end_placeN : W5 m ρ c (Proc.devRef .tc main_v7) = lay fun b => placeN (places m c b) := by
  refine (kept_late m ρ c main_v7 (by decide) (by decide)).trans ?_
  have e : W3 m ρ c (Proc.devRef .tc main_v7) = shapeCast S8x2048x1 (W2 m ρ c (Proc.devRef .tc main_v4_2)) shapeCasts_S8x4x1x512_S8x2048x1 := by
    show StableHlo.after hostOps1 _ _ = _; after_results_simp; rfl
  have e' : W2 m ρ c (Proc.devRef .tc main_v4_2) = _ := (W2_arr m ρ c 6).trans (entry m ρ c h).array6
  rw [e, e']; exact gathered (fun b => placeN (places m c b)) _

/-- The fifth result: the neighbours' values. -/
theorem end_valueN : W5 m ρ c (Proc.devRef .tc main_v8) = lay fun b => valueN (places m c b) (values m c b) := by
  refine (kept_late m ρ c main_v8 (by decide) (by decide)).trans ?_
  have e : W3 m ρ c (Proc.devRef .tc main_v8) = shapeCast S8x2048x1 (W2 m ρ c (Proc.devRef .tc main_v4_3)) shapeCasts_S8x4x1x512_S8x2048x1 := by
    show StableHlo.after hostOps1 _ _ = _; after_results_simp; rfl
  have e' : W2 m ρ c (Proc.devRef .tc main_v4_3) = _ := (W2_arr m ρ c 7).trans (entry m ρ c h).array7
  rw [e, e']; exact gathered (fun b => valueN (places m c b) (values m c b)) _

/-- The labels, before they join the standardised quotients. -/
theorem labels : W4 m ρ c (Proc.devRef .tc main_v10) = lay fun b => label (places m c b) (values m c b) := by
  refine (W4_of m ρ c main_v10 (by decide)).trans ?_
  have e : W3 m ρ c (Proc.devRef .tc main_v10) = shapeCast S8x2048x1 (W2 m ρ c (Proc.devRef .tc main_v4_5)) shapeCasts_S8x4x1x512_S8x2048x1 := by
    show StableHlo.after hostOps1 _ _ = _; after_results_simp; rfl
  have e' : W2 m ρ c (Proc.devRef .tc main_v4_5) = _ := (W2_arr m ρ c 9).trans (entry m ρ c h).array9
  rw [e, e']; exact gathered (fun b => label (places m c b) (values m c b)) _

/-- The clipped quotients, as the standardising kernel is given them. -/
theorem quotients : W3 m ρ c (Proc.devRef .tc main_v11)
    = shapeCast S128x128 (lay fun b => clipped (places m c b) (values m c b)) shapeCasts_S8x2048x1_S128x128 := by
  have e : W3 m ρ c (Proc.devRef .tc main_v11) = shapeCast S128x128 (shapeCast S8x2048x1 (W2 m ρ c (Proc.devRef .tc main_v4_4))
      shapeCasts_S8x4x1x512_S8x2048x1) shapeCasts_S8x2048x1_S128x128 := by
    show StableHlo.after hostOps1 _ _ = _; after_results_simp; rfl
  have e' : W2 m ρ c (Proc.devRef .tc main_v4_4) = _ := (W2_arr m ρ c 8).trans (entry m ρ c h).array8
  rw [e, e']
  exact congrArg (fun v => shapeCast S128x128 v shapeCasts_S8x2048x1_S128x128) (gathered (fun b => clipped (places m c b) (values m c b)) _)

/-- The third result: beside each other, the clipped quotients standardised with the scale and the shift, and the labels. -/
theorem end_features : W5 m ρ c (Proc.devRef .tc main_v16) = concatenate S8x2048x2 2
    [⟨S8x2048x1, fun i => standard (m ((c : Thread nD τ).loc main_arg10) (ix1 0)) (m ((c : Thread nD τ).loc main_arg11) (ix1 0))
      (lay fun b => clipped (places m c b) (values m c b)) i⟩,
     ⟨S8x2048x1, lay fun b => label (places m c b) (values m c b)⟩] concatenates_S8x2048x1_S8x2048x1_S8x2048x2_d2 := by
  have e : W5 m ρ c (Proc.devRef .tc main_v16) = concatenate S8x2048x2 2
      [⟨S8x2048x1, shapeCast S8x2048x1 (W4 m ρ c (Proc.devRef .tc main_v14)) shapeCasts_S128x128_S8x2048x1⟩,
       ⟨S8x2048x1, W4 m ρ c (Proc.devRef .tc main_v10)⟩] concatenates_S8x2048x1_S8x2048x1_S8x2048x2_d2 := by
    show StableHlo.after hostOps2 _ _ = _; after_results_simp; rfl
  have g : V3 m ρ c main_v12 (ix2 0 0) = m ((c : Thread nD τ).loc main_arg10) (ix1 0) := by
    have e : V3 m ρ c main_v12 = shapeCast S1x1 (W2 m ρ c (Proc.devRef .tc main_arg10)) shapeCasts_S1_S1x1 := by
      show StableHlo.after hostOps1 _ _ = _; after_results_simp; rfl
    rw [e, W2_args m ρ c main_arg10 (by decide)]; exact ValueIdx.shapeCast_a_a1_apply (α := EReal) _ _ 0 0
  have b : V3 m ρ c main_v13 (ix2 0 0) = m ((c : Thread nD τ).loc main_arg11) (ix1 0) := by
    have e : V3 m ρ c main_v13 = shapeCast S1x1 (W2 m ρ c (Proc.devRef .tc main_arg11)) shapeCasts_S1_S1x1 := by
      show StableHlo.after hostOps1 _ _ = _; after_results_simp; rfl
    rw [e, W2_args m ρ c main_arg11 (by decide)]; exact ValueIdx.shapeCast_a_a1_apply (α := EReal) _ _ 0 0
  have e' : W4 m ρ c (Proc.devRef .tc main_v14) = _ := (W4_arr m ρ c 3).trans (array_square (V3 m ρ) c)
  have q : V3 m ρ c main_v11 = _ := quotients ρ c h
  rw [e, e', labels ρ c h, g, b, q]
  exact congrArg (fun v : FVec Ideal S8x2048x1 .f32 => concatenate S8x2048x2 2 [⟨S8x2048x1, v⟩, ⟨S8x2048x1, lay fun b => label (places m c b) (values m c b)⟩]
      concatenates_S8x2048x1_S8x2048x1_S8x2048x2_d2)
    (standard_recast (m ((c : Thread nD τ).loc main_arg10) (ix1 0)) (m ((c : Thread nD τ).loc main_arg11) (ix1 0))
      (lay fun b => clipped (places m c b) (values m c b)) _ _)

omit h
variable (m)

-- a library lemma stated over a pinned configuration unifies only when plain definitions may be unfolded in types
set_option backward.isDefEq.respectTransparency.types false in
/-- Every execution of the program ends with every buffer that outlives it at the last boundary's contents. -/
theorem ends : θ_run defs (onTc (τ := τ) (main (F := Ideal))) ⟨m, fun _ => 0, ρ⟩ fun r =>
    ∀ c : Dev nD, ∀ b ∈ Pipeline.ucRefs τ sig, r.2.mem (((c : Thread nD τ)).1, b) = W5 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

end Cert.KernelIdeal.Near

end
-- ==== Proof.Pick.lean ====
/-
  How the reference picks the neighbours: the second entry of a stable argsort of each row, and the look-up by it.
-/
module

public import proofs.«01_k».proof.Proof.Gen.ReferenceIdeal.Run
public import proofs.«01_k».proof.Proof.Second
public import Idealize.ShloMosaic.Lib.Pointwise
public import Idealize.ShloMosaic.Lib.IdealHost
public import Idealize.ShloMosaic.Lib.Pipeline.Value

@[expose] public section

set_option maxRecDepth 16384

noncomputable section

namespace Cert.ReferenceIdeal.Near

open Idealize.ShloMosaic Idealize.ShloMosaic.TcCoe Idealize.SL.Sem
open Cert.ReferenceIdeal Cert.ReferenceIdeal.Gen Cert.ReferenceIdeal.Value Cert.Near

/-- The argsort's comparison is the order of the numbers. -/
theorem comparator_eq (l r : EReal × BitVec 32) : comparator_f32_i32_d2 (F := Ideal) l r = BitVec.ofBool (decide (l.1 < r.1)) := by
  have key : ∀ x : EReal, (Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) : EReal) = x := fun x => by
    have h0 : (FloatOps.ofBits (F := Ideal) .f32 0x00000000#32 : EReal) = 0 := Ideal.ofBits_zero_f32
    have h1 : FloatOps.cmpf (F := Ideal) (φ := .f32) .une x x = 0#1 := by
      show BitVec.ofBool (decide (x ≠ x)) = _; simp
    have h2 : FloatOps.cmpf (F := Ideal) (φ := .f32) .oeq x (0 : EReal) = BitVec.ofBool (decide (x = 0)) := rfl
    rw [h0, h1, h2]
    by_cases h : x = 0 <;> simp [Scalar.select, h]
  show BitVec.ofBool (decide ((_ : EReal) < _)) = _
  rw [key l.1, key r.1]

/-- The second entry of the argsort of a row is its runner-up. -/
theorem sort_at {n : Nat} (hn : 2 ≤ n) (D : FVec Ideal ⟨3, ![8, 1024, n]⟩ .f32) (b : Fin 8) (q : Fin 1024) {i j : Fin n}
    (h : Runner (fun k => (D (ix3 b q k) : EReal)) i j) (hD : ∀ k, (0 : EReal) ≤ D (ix3 b q k)) :
    (Host.sort2 ⟨3, ![8, 1024, n]⟩ 2 comparator_f32_i32_d2 D (iotaInDim ⟨3, ![8, 1024, n]⟩ 32 2)).2 (ix3 b q ⟨1, by omega⟩)
      = BitVec.ofNat 32 j.val := by
  have along : ∀ k : Fin n, (ix3 b q ⟨1, by omega⟩ : (⟨3, ![8, 1024, n]⟩ : Shape).Idx).along (2 : Fin 3) k = ix3 b q k := fun k => by
    funext a; fin_cases a <;> rfl
  have hs := sortedFrom_runner h hD hn
  unfold Host.sort2
  rw [dif_pos (show 2 < (⟨3, ![8, 1024, n]⟩ : Shape).rank from (show 2 < 3 by decide))]
  have e : ∀ k k' : Fin n, (comparator_f32_i32_d2 (F := Ideal)
      (D ((ix3 b q ⟨1, by omega⟩ : (⟨3, ![8, 1024, n]⟩ : Shape).Idx).along (2 : Fin 3) k), iotaInDim ⟨3, ![8, 1024, n]⟩ 32 2 ((ix3 b q ⟨1, by omega⟩ : (⟨3, ![8, 1024, n]⟩ : Shape).Idx).along (2 : Fin 3) k))
      (D ((ix3 b q ⟨1, by omega⟩ : (⟨3, ![8, 1024, n]⟩ : Shape).Idx).along (2 : Fin 3) k'), iotaInDim ⟨3, ![8, 1024, n]⟩ 32 2 ((ix3 b q ⟨1, by omega⟩ : (⟨3, ![8, 1024, n]⟩ : Shape).Idx).along (2 : Fin 3) k')) == 1#1)
      = decide ((D (ix3 b q k) : EReal) < D (ix3 b q k')) := fun k k' => by
    rw [comparator_eq, along, along]
    by_cases h : (D (ix3 b q k) : EReal) < D (ix3 b q k') <;> simp [h]
  refine (congrArg (fun f : Fin n → Fin n → Bool => iotaInDim ⟨3, ![8, 1024, n]⟩ 32 2
    ((ix3 b q ⟨1, by omega⟩ : (⟨3, ![8, 1024, n]⟩ : Shape).Idx).along (2 : Fin 3) (sortedFrom f (⟨1, by omega⟩ : Fin n))))
    (funext fun k => funext fun k' => e k k')).trans ?_
  refine (congrArg (fun k : Fin n => iotaInDim ⟨3, ![8, 1024, n]⟩ 32 2
    ((ix3 b q ⟨1, by omega⟩ : (⟨3, ![8, 1024, n]⟩ : Shape).Idx).along (2 : Fin 3) k)) hs).trans ?_
  show iotaInDim ⟨3, ![8, 1024, n]⟩ 32 2 ((ix3 b q ⟨1, by omega⟩ : (⟨3, ![8, 1024, n]⟩ : Shape).Idx).along (2 : Fin 3) j) = _
  rw [along]
  rfl

/-- A position counted from the end when negative. -/
def wrapped (w : IVec S8x1024x1 32) (len : BitVec 32) : IVec S8x1024x1 32 :=
  select (cmpi .slt w (broadcastInDim S8x1024x1 ![] bcast_S_S8x1024x1 (constantI S_ 32 0#32)))
    (addi w (broadcastInDim S8x1024x1 ![] bcast_S_S8x1024x1 (constantI S_ 32 len))) w

/-- What was looked up, where the position is in range. -/
def filled (w : IVec S8x1024x1 32) (last : BitVec 32) (g : FVec Ideal S8x1024x1 .f32) : FVec Ideal S8x1024x1 .f32 :=
  select (broadcastInDim S8x1024x1 ![0, 1] bcast_S8x1024_S8x1024x1_0_1 (Host.reduce IntOp.andi (andi
    (cmpi .sge w (broadcastInDim S8x1024x1 ![] bcast_S_S8x1024x1 (constantI S_ 32 0#32)))
    (cmpi .sle w (broadcastInDim S8x1024x1 ![0, 1, 2] bcast_S1x1x1_S8x1024x1_0_1_2 (broadcastInDim S1x1x1 ![2] bcast_S1_S1x1x1_2 (constantI S1 32 last)))))
    (constantI S_ 1 1#1) reducesTo_S8x1024x1_S8x1024_d2 h_S_)) g (broadcastInDim S8x1024x1 ![] bcast_S_S8x1024x1 (constant S_ .f32 0x7FC00000#32))

/-- A position in range is left as it is. -/
theorem wrapped_at {w : IVec S8x1024x1 32} {b : Fin 8} {q : Fin 1024} {j : Nat} (hj : j < 2048) (h : w (ix3 b q 0) = BitVec.ofNat 32 j) (len : BitVec 32) :
    wrapped w len (ix3 b q 0) = BitVec.ofNat 32 j := by
  have key : ∀ j : Fin 2048, IntOp.cmpi .slt (BitVec.ofNat 32 j.val) 0#32 = 0#1 := by decide +kernel
  show Scalar.select (IntOp.cmpi .slt (w (ix3 b q 0)) 0#32) _ (w (ix3 b q 0)) = _
  rw [h, key ⟨j, hj⟩]; rfl

/-- At a position in range, what was looked up is kept. -/
theorem filled_at {w : IVec S8x1024x1 32} {last : Nat} {b : Fin 8} {q : Fin 1024} {j : Nat} (hj : j ≤ last) (hl : last < 2048)
    (h : w (ix3 b q 0) = BitVec.ofNat 32 j) (g : FVec Ideal S8x1024x1 .f32) :
    filled w (BitVec.ofNat 32 last) g (ix3 b q 0) = g (ix3 b q 0) := by
  have lo : ∀ j : Fin 2048, IntOp.cmpi .sge (BitVec.ofNat 32 j.val) 0#32 = 1#1 := by decide +kernel
  have hint : ∀ k, k < 2048 → (BitVec.ofNat 32 k).toInt = (k : Int) := fun k hk => by
    rw [BitVec.toInt_eq_toNat_of_lt (by rw [BitVec.toNat_ofNat]; omega), BitVec.toNat_ofNat, Nat.mod_eq_of_lt (by omega)]
  have hi : IntOp.cmpi .sle (BitVec.ofNat 32 j) (BitVec.ofNat 32 last) = 1#1 := by
    show BitVec.ofBool (BitVec.sle _ _) = 1#1
    rw [BitVec.sle, hint j (by omega), hint last hl]; simp [hj]
  have hr : Host.reduce IntOp.andi (andi
    (cmpi .sge w (broadcastInDim S8x1024x1 ![] bcast_S_S8x1024x1 (constantI S_ 32 0#32)))
    (cmpi .sle w (broadcastInDim S8x1024x1 ![0, 1, 2] bcast_S1x1x1_S8x1024x1_0_1_2 (broadcastInDim S1x1x1 ![2] bcast_S1_S1x1x1_2 (constantI S1 32 (BitVec.ofNat 32 last))))))
    (constantI S_ 1 1#1) reducesTo_S8x1024x1_S8x1024_d2 h_S_ (ix2 b q) = 1#1 := by
    refine (Host.reduce_eq_fold_single IntOp.andi _ _ _ (by decide) _ _).trans ?_
    have hone : ∀ f : Fin 1 → BitVec 1, f 0 = 1#1 → (Finset.univ : Finset (Fin 1)).fold IntOp.andi 1#1 f = 1#1 := fun f hf => by
      rw [show (Finset.univ : Finset (Fin 1)) = {0} from rfl, Finset.fold_singleton, hf]; rfl
    refine hone _ ?_
    have hx : ∀ k : S8x1024x1.Idx, k = ix3 b q 0 → IntOp.andi (IntOp.cmpi .sge (w k) 0#32) (IntOp.cmpi .sle (w k) (BitVec.ofNat 32 last)) = 1#1 := fun k hk => by
      rw [hk, h, lo ⟨j, by omega⟩, hi]; rfl
    exact hx _ (funext fun a => by fin_cases a <;> rfl)
  show Scalar.select (Host.reduce IntOp.andi _ _ _ _ _) (g (ix3 b q 0)) _ = _
  have hix : ∀ k : S8x1024.Idx, k = ix2 b q → Host.reduce IntOp.andi (andi
    (cmpi .sge w (broadcastInDim S8x1024x1 ![] bcast_S_S8x1024x1 (constantI S_ 32 0#32)))
    (cmpi .sle w (broadcastInDim S8x1024x1 ![0, 1, 2] bcast_S1x1x1_S8x1024x1_0_1_2 (broadcastInDim S1x1x1 ![2] bcast_S1_S1x1x1_2 (constantI S1 32 (BitVec.ofNat 32 last))))))
    (constantI S_ 1 1#1) reducesTo_S8x1024x1_S8x1024_d2 h_S_ k = 1#1 := fun k hk => by rw [hk]; exact hr
  rw [hix _ (funext fun a => by fin_cases a <;> rfl)]
  rfl

/-- The look-up of one entry of its row for each of 1024 positions, from rows of `N` entries. -/
abbrev lookDims (N : Nat) (wf : GatherDims.WF ⟨3, ![8, N, 1]⟩ S8x1024x1 S8x1024x1 [2] [1] [0] [1] [0] 2 ![1, 1, 1]) :
    GatherDims ⟨3, ![8, N, 1]⟩ S8x1024x1 S8x1024x1 where
  offsetDims := [2]
  collapsedSliceDims := [1]
  operandBatchingDims := [0]
  startIndicesBatchingDims := [0]
  startIndexMap := [1]
  indexVectorDim := 2
  sliceSizes := ![1, 1, 1]
  wf := wf

/-- A look-up reads the named entry of the row. -/
theorem look_at {N : Nat} (wf : GatherDims.WF ⟨3, ![8, N, 1]⟩ S8x1024x1 S8x1024x1 [2] [1] [0] [1] [0] 2 ![1, 1, 1]) (hN : N ≤ 2048)
    (x : FVec Ideal ⟨3, ![8, N, 1]⟩ .f32) (w : IVec S8x1024x1 32) (b : Fin 8) (q : Fin 1024) (j : Fin N)
    (h : w (ix3 b q 0) = BitVec.ofNat 32 j.val) : Host.gather (lookDims N wf) x w (ix3 b q 0) = x (ix3 b j 0) := by
  have hj := j.isLt
  have hint : (BitVec.ofNat 32 j.val).toInt = (j.val : Int) := by
    rw [BitVec.toInt_eq_toNat_of_lt (by rw [BitVec.toNat_ofNat]; omega), BitVec.toNat_ofNat, Nat.mod_eq_of_lt (by omega)]
  unfold Host.gather
  congr 1
  funext a
  refine Fin.ext ?_
  show (lookDims N wf).start (ix3 b q 0) w a + (lookDims N wf).batchCoord (ix3 b q 0) a + (lookDims N wf).offCoord (ix3 b q 0) a = _
  have hs : (0 : Fin 3) ∈ (lookDims N wf).operandBatchingDims := List.mem_singleton.mpr rfl
  have hc : (1 : Fin 3) ∈ (lookDims N wf).startIndexMap := List.mem_singleton.mpr rfl
  fin_cases a
  · show (lookDims N wf).start (ix3 b q 0) w 0 + (lookDims N wf).batchCoord (ix3 b q 0) 0 + (lookDims N wf).offCoord (ix3 b q 0) 0 = b.val
    rw [GatherDims.start_batching _ _ _ _ hs, GatherDims.offCoord_eq_zero _ _ _ fun h => ((GatherDims.mem_sKept _ _).mp h).2 hs]
    unfold GatherDims.batchCoord
    rw [dif_pos hs, Nat.zero_add, Nat.add_zero]
    rfl
  · show (lookDims N wf).start (ix3 b q 0) w 1 + (lookDims N wf).batchCoord (ix3 b q 0) 1 + (lookDims N wf).offCoord (ix3 b q 0) 1 = j.val
    rw [GatherDims.batchCoord_eq_zero _ _ _ (fun h => by simp at h),
      GatherDims.offCoord_eq_zero _ _ _ (fun h => ((GatherDims.mem_sKept _ _).mp h).1 (List.mem_singleton.mpr rfl))]
    unfold GatherDims.start
    rw [dif_pos hc]
    have hi : (lookDims N wf).siIdx (ix3 b q 0) ⟨List.idxOf (1 : Fin 3) (lookDims N wf).startIndexMap, List.idxOf_lt_length_iff.2 hc⟩ = ix3 b q 0 := by
      funext b; refine Fin.ext ?_
      fin_cases b <;> rfl
    rw [hi, h, hint]
    show min j.val (N - 1) + 0 + 0 = j.val
    omega
  · exact Nat.lt_one_iff.mp (GatherDims.lt _ _ _ _)

end Cert.ReferenceIdeal.Near

end
-- ==== Proof.Lookup.lean ====
/-
  The reference's rows of distances are the penalised rows, and what it looks up is the neighbour's place and value.
-/
module

public import proofs.«01_k».proof.Proof.Pick
public import proofs.«01_k».proof.Proof.Spec

@[expose] public section

set_option maxRecDepth 16384

noncomputable section

namespace Cert.ReferenceIdeal.Near

open Idealize.ShloMosaic Idealize.ShloMosaic.TcCoe Idealize.SL.Sem
open Cert.ReferenceIdeal Cert.ReferenceIdeal.Gen Cert.ReferenceIdeal.Value Cert.Near

/-- The `q`-th context point. -/
def head (q : Fin 1024) : Fin 2048 := q.castLE (by decide)
/-- The `q`-th target point. -/
def tail (q : Fin 1024) : Fin 2048 := ⟨1024 + q.val, by omega⟩

/-- The arguments hold the places `X` and the values `Y` of all points, and apart those of the context and of the target. -/
structure Pool (V : Valuation τ sig (Elt Ideal)) (X Y : Fin 8 → Fin 2048 → EReal) : Prop where
  x : ∀ b p, (V (Proc.devRef .tc main_arg1) (ix3 b p 0) : EReal) = X b p
  y : ∀ b p, (V (Proc.devRef .tc main_arg0) (ix3 b p 0) : EReal) = Y b p
  head_x : ∀ b q, (V (Proc.devRef .tc main_arg4) (ix3 b q 0) : EReal) = X b (head q)
  head_y : ∀ b q, (V (Proc.devRef .tc main_arg2) (ix3 b q 0) : EReal) = Y b (head q)
  tail_x : ∀ b q, (V (Proc.devRef .tc main_arg5) (ix3 b q 0) : EReal) = X b (tail q)
  tail_y : ∀ b q, (V (Proc.devRef .tc main_arg3) (ix3 b q 0) : EReal) = Y b (tail q)
  small : ∀ b, Small (X b)

/-- The root of the sum of the one square. -/
theorem root_at {n : Nat} (D : FVec Ideal ⟨4, ![8, 1024, n, 1]⟩ .f32) (h : (⟨4, ![8, 1024, n, 1]⟩ : Shape).ReducesTo [3] ⟨3, ![8, 1024, n]⟩)
    (b : Fin 8) (q : Fin 1024) (k : Fin n) :
    (Host.sqrt (Host.reduceAdd (mulf D D) (constant S_ .f32 0x00000000#32) h h_S_) (ix3 b q k) : EReal)
      = Ideal.sqrt (D (ix4 b q k 0) * D (ix4 b q k 0)) := by
  have e : (Host.reduceAdd (mulf D D) (constant S_ .f32 0x00000000#32) h h_S_ (ix3 b q k) : EReal) = D (ix4 b q k 0) * D (ix4 b q k 0) := by
    refine (Ideal.hostReduceAdd_r4_a3 h (mulf D D) (Ideal.ofBits .f32 0x00000000#32) (ix3 b q k)).trans ?_
    exact (congrArg₂ (fun u v : EReal => u + v) Ideal.ofBits_zero_f32 (Fin.sum_univ_one _)).trans (zero_add _)
  have root : ∀ u v : EReal, u = v → (FloatOps.hostUnary (F := Ideal) (φ := .f32) .sqrt u : EReal) = Ideal.sqrt v := fun u v e => congrArg Ideal.sqrt e
  rw [Host.sqrt_apply]
  exact root _ _ e

/-- The differences of every number of one array from every number of another. -/
theorem cross_at {m : Nat} (hm : m ≠ 1) (u : FVec Ideal S8x1024x1 .f32) (v : FVec Ideal ⟨3, ![8, m, 1]⟩ .f32)
    (h1 : S8x1024x1.BroadcastsInDim S8x1024x1x1 ![0, 1, 3]) (h2 : S8x1024x1x1.BroadcastsInDim ⟨4, ![8, 1024, m, 1]⟩ ![0, 1, 2, 3])
    (h3 : (⟨3, ![8, m, 1]⟩ : Shape).BroadcastsInDim ⟨4, ![8, 1, m, 1]⟩ ![0, 2, 3]) (h4 : (⟨4, ![8, 1, m, 1]⟩ : Shape).BroadcastsInDim ⟨4, ![8, 1024, m, 1]⟩ ![0, 1, 2, 3])
    (b : Fin 8) (q : Fin 1024) (k : Fin m) :
    (subf (broadcastInDim ⟨4, ![8, 1024, m, 1]⟩ ![0, 1, 2, 3] h2 (broadcastInDim S8x1024x1x1 ![0, 1, 3] h1 u))
      (broadcastInDim ⟨4, ![8, 1024, m, 1]⟩ ![0, 1, 2, 3] h4 (broadcastInDim ⟨4, ![8, 1, m, 1]⟩ ![0, 2, 3] h3 v)) (ix4 b q k 0) : EReal)
      = (u (ix3 b q 0) : EReal) - v (ix3 b k 0) := by
  show (u _ : EReal) - v _ = _
  congr 2
  · funext a; fin_cases a <;> rfl
  · funext a
    fin_cases a
    · rfl
    · refine Fin.ext ?_
      refine (congrArg Fin.val (dif_neg (show ¬ m = 1 from hm))).trans ?_
      exact congrArg Fin.val (dif_neg (show ¬ m = 1 from hm))
    · rfl

/-- A point is refused beyond itself: the mask's column less row, above 1024. -/
theorem mask_at (q : Fin 1024) (k : Fin 2048) :
    (FloatOps.mulf (FloatOps.uitofp (F := Ideal) .f32 (~~~ IntOp.cmpi .sle (BitVec.ofNat 32 k.val - BitVec.ofNat 32 q.val) 1024#32)) (FloatOps.ofBits .f32 0x447A0000#32) : EReal)
      = if max (tail q).val 1023 < k.val then penalty else 0 := by
  have hk := k.isLt
  have hq := q.isLt
  have hd : (BitVec.ofNat 32 k.val - BitVec.ofNat 32 q.val).toInt = (k.val : Int) - q.val := by
    rw [BitVec.toInt_sub, BitVec.toInt_ofNat', BitVec.toInt_ofNat']
    simp only [Int.bmod]; omega
  have hc : IntOp.cmpi .sle (BitVec.ofNat 32 k.val - BitVec.ofNat 32 q.val) 1024#32 = BitVec.ofBool (decide (k.val ≤ 1024 + q.val)) := by
    show BitVec.ofBool (BitVec.sle _ _) = _
    rw [BitVec.sle, hd]
    congr 1
    exact decide_eq_decide.2 (by show _ ≤ (1024 : Int) ↔ _; omega)
  rw [hc]
  by_cases h : k.val ≤ 1024 + q.val
  · rw [if_neg (by show ¬ max (1024 + q.val) 1023 < k.val; omega)]
    simp only [h, decide_true]
    show (((~~~ BitVec.ofBool true).toNat : ℝ) : EReal) * penalty = 0
    rw [show (~~~ BitVec.ofBool true).toNat = 0 from rfl]; simp
  · rw [if_pos (by show max (1024 + q.val) 1023 < k.val; omega)]
    simp only [h, decide_false]
    show (((~~~ BitVec.ofBool false).toNat : ℝ) : EReal) * penalty = penalty
    rw [show (~~~ BitVec.ofBool false).toNat = 1 from rfl]; simp

variable {V : Valuation τ sig (Elt Ideal)} {X Y : Fin 8 → Fin 2048 → EReal}

/-- A context point's distances are the first 1024 entries of its row. -/
theorem Pool.head_row (h : Pool V X Y) (b : Fin 8) (q k : Fin 1024) : (res_main_v7 V (ix3 b q k) : EReal) = row (X b) (head q) (head k) := by
  rw [row_admitted (h.small b) (by have := k.isLt; show ¬ _ < k.val; omega)]
  refine (root_at _ _ b q k).trans ?_
  have e := cross_at (by decide) (V (Proc.devRef .tc main_arg4)) (V (Proc.devRef .tc main_arg4)) bcast_S8x1024x1_S8x1024x1x1_0_1_3
    bcast_S8x1024x1x1_S8x1024x1024x1_0_1_2_3 bcast_S8x1024x1_S8x1x1024x1_0_2_3 bcast_S8x1x1024x1_S8x1024x1024x1_0_1_2_3 b q k
  rw [h.head_x, h.head_x] at e
  exact congrArg (fun d : EReal => Ideal.sqrt (d * d)) e

/-- A target point's distances, with what refuses the later points, are its row. -/
theorem Pool.tail_row (h : Pool V X Y) (b : Fin 8) (q : Fin 1024) (k : Fin 2048) : (res_main_v47 V (ix3 b q k) : EReal) = row (X b) (tail q) k := by
  have e := cross_at (by decide) (V (Proc.devRef .tc main_arg5)) (V (Proc.devRef .tc main_arg1)) bcast_S8x1024x1_S8x1024x1x1_0_1_3
    bcast_S8x1024x1x1_S8x1024x2048x1_0_1_2_3 bcast_S8x2048x1_S8x1x2048x1_0_2_3 bcast_S8x1x2048x1_S8x1024x2048x1_0_1_2_3 b q k
  rw [h.tail_x, h.x] at e
  have e1 := (root_at (res_main_v28 V) reducesTo_S8x1024x2048x1_S8x1024x2048_d3 b q k).trans (congrArg (fun d : EReal => Ideal.sqrt (d * d)) e)
  exact congrArg₂ (fun u v : EReal => u + v) e1 (mask_at q k)

/-- The picked entry of a row, laid out as a column of positions. -/
theorem column_at {n : Nat} (hn : 2 ≤ n) (D : FVec Ideal ⟨3, ![8, 1024, n]⟩ .f32) (b : Fin 8) (q : Fin 1024) {i j : Fin n}
    (hr : Runner (fun k => (D (ix3 b q k) : EReal)) i j) (hD : ∀ k, (0 : EReal) ≤ D (ix3 b q k))
    (hs : (⟨3, ![8, 1024, n]⟩ : Shape).Slices ![0, 0, 1] S8x1024x1) :
    broadcastInDim S8x1024x1 ![0, 1] bcast_S8x1024_S8x1024x1_0_1 (shapeCast S8x1024 (extractStridedSlice S8x1024x1 ![0, 0, 1]
      ((Host.sort2 ⟨3, ![8, 1024, n]⟩ 2 comparator_f32_i32_d2 D (iotaInDim ⟨3, ![8, 1024, n]⟩ 32 2)).2) hs) shapeCasts_S8x1024x1_S8x1024) (ix3 b q 0)
      = BitVec.ofNat 32 j.val := by
  rw [← sort_at hn D b q hr hD]
  show shapeCast S8x1024 _ shapeCasts_S8x1024x1_S8x1024 _ = _
  refine (shapeCast_apply (s := S8x1024x1) _ shapeCasts_S8x1024x1_S8x1024 _ (ix3 b q 0) ?_).trans ?_
  · rw [Shape.rowMajor_val_three, Shape.rowMajor_val_two]
    show (b.val * 1024 + q.val) * 1 + 0 = b.val * 1024 + q.val
    omega
  · refine congrArg (Host.sort2 ⟨3, ![8, 1024, n]⟩ 2 comparator_f32_i32_d2 D (iotaInDim ⟨3, ![8, 1024, n]⟩ 32 2)).2 ?_
    funext a
    refine Fin.ext ?_
    fin_cases a
    · show 0 + b.val = b.val; omega
    · show 0 + q.val = q.val; omega
    · rfl

/-- The position found for a context point is its neighbour's. -/
theorem Pool.head_pick (h : Pool V X Y) (b : Fin 8) (q : Fin 1024) :
    ∃ hj : (near (X b) (head q)).val < 1024, res_main_v11 V (ix3 b q 0) = BitVec.ofNat 32 (near (X b) (head q)).val := by
  obtain ⟨i, hr⟩ := near_spec (h.small b) (head q)
  have hq : (head q).val < 1024 := q.isLt
  obtain ⟨hi, hj, hr'⟩ := Runner.prefix (h.small b) hr (w := 1024) (by decide) (fun k hk => by omega)
  refine ⟨hj, ?_⟩
  refine column_at (by decide) (res_main_v7 V) b q (i := ⟨i.val, hi⟩) (j := ⟨(near (X b) (head q)).val, hj⟩) ?_ (fun k => ?_) slices_S8x1024x1024_S8x1024x1_0_0_1
  · have : (fun k => (res_main_v7 V (ix3 b q k) : EReal)) = fun k : Fin 1024 => row (X b) (head q) (k.castLE (by decide)) := funext fun k => h.head_row b q k
    rw [this]; exact hr'
  · exact (row_nonneg (h.small b) (head q) (head k)).trans_eq (h.head_row b q k).symm

/-- The position found for a target point is its neighbour's. -/
theorem Pool.tail_pick (h : Pool V X Y) (b : Fin 8) (q : Fin 1024) :
    res_main_v51 V (ix3 b q 0) = BitVec.ofNat 32 (near (X b) (tail q)).val := by
  obtain ⟨i, hr⟩ := near_spec (h.small b) (tail q)
  refine column_at (by decide) (res_main_v47 V) b q (i := i) (j := near (X b) (tail q)) ?_ (fun k => ?_) slices_S8x1024x2048_S8x1024x1_0_0_1
  · have : (fun k => (res_main_v47 V (ix3 b q k) : EReal)) = row (X b) (tail q) := funext fun k => h.tail_row b q k
    rw [this]; exact hr
  · exact (row_nonneg (h.small b) (tail q) k).trans_eq (h.tail_row b q k).symm

/-- What is looked up at a position in range. -/
theorem fetch_at {N : Nat} (wf : GatherDims.WF ⟨3, ![8, N, 1]⟩ S8x1024x1 S8x1024x1 [2] [1] [0] [1] [0] 2 ![1, 1, 1]) (hN : N < 2048 + 1)
    (x : FVec Ideal ⟨3, ![8, N, 1]⟩ .f32) {w : IVec S8x1024x1 32} {b : Fin 8} {q : Fin 1024} {j : Nat} (hj : j < N) (len : BitVec 32)
    (h : w (ix3 b q 0) = BitVec.ofNat 32 j) :
    filled (wrapped w len) (BitVec.ofNat 32 (N - 1)) (Host.gather (lookDims N wf) x (wrapped w len)) (ix3 b q 0) = x (ix3 b ⟨j, hj⟩ 0) := by
  have hw := wrapped_at (by omega) h len
  rw [filled_at (by omega) (by omega) hw]
  exact look_at wf (by omega) x _ b q ⟨j, hj⟩ hw

/-- The place looked up for a context point is its neighbour's. -/
theorem Pool.head_placeN (h : Pool V X Y) (b : Fin 8) (q : Fin 1024) : (res_main_v12 V (ix3 b q 0) : EReal) = placeN (X b) (head q) := by
  obtain ⟨hj, e⟩ := h.head_pick b q
  exact (fetch_at _ (by decide) (V (Proc.devRef .tc main_arg4)) hj 1024#32 e).trans (h.head_x b ⟨_, hj⟩)

/-- The value looked up for a context point is its neighbour's. -/
theorem Pool.head_valueN (h : Pool V X Y) (b : Fin 8) (q : Fin 1024) : (res_main_v14 V (ix3 b q 0) : EReal) = valueN (X b) (Y b) (head q) := by
  obtain ⟨hj, e⟩ := h.head_pick b q
  exact (fetch_at _ (by decide) (V (Proc.devRef .tc main_arg2)) hj 1024#32 e).trans (h.head_y b ⟨_, hj⟩)

/-- The place looked up for a target point is its neighbour's. -/
theorem Pool.tail_placeN (h : Pool V X Y) (b : Fin 8) (q : Fin 1024) : (res_main_v52 V (ix3 b q 0) : EReal) = placeN (X b) (tail q) :=
  (fetch_at _ (by decide) (V (Proc.devRef .tc main_arg1)) (near (X b) (tail q)).isLt 2048#32 (h.tail_pick b q)).trans (h.x b _)

/-- The value looked up for a target point is its neighbour's. -/
theorem Pool.tail_valueN (h : Pool V X Y) (b : Fin 8) (q : Fin 1024) : (res_main_v54 V (ix3 b q 0) : EReal) = valueN (X b) (Y b) (tail q) :=
  (fetch_at _ (by decide) (V (Proc.devRef .tc main_arg0)) (near (X b) (tail q)).isLt 2048#32 (h.tail_pick b q)).trans (h.y b _)

/-- The difference in place of a context point. -/
theorem Pool.head_placeD (h : Pool V X Y) (b : Fin 8) (q : Fin 1024) : (res_main_v15 V (ix3 b q 0) : EReal) = placeD (X b) (head q) :=
  congrArg₂ (fun u v : EReal => u - v) (h.head_x b q) (h.head_placeN b q)

/-- The difference in value of a context point. -/
theorem Pool.head_valueD (h : Pool V X Y) (b : Fin 8) (q : Fin 1024) : (res_main_v16 V (ix3 b q 0) : EReal) = valueD (X b) (Y b) (head q) :=
  congrArg₂ (fun u v : EReal => u - v) (h.head_y b q) (h.head_valueN b q)

/-- The difference in place of a target point. -/
theorem Pool.tail_placeD (h : Pool V X Y) (b : Fin 8) (q : Fin 1024) : (res_main_v55 V (ix3 b q 0) : EReal) = placeD (X b) (tail q) :=
  congrArg₂ (fun u v : EReal => u - v) (h.tail_x b q) (h.tail_placeN b q)

/-- The difference in value of a target point. -/
theorem Pool.tail_valueD (h : Pool V X Y) (b : Fin 8) (q : Fin 1024) : (res_main_v56 V (ix3 b q 0) : EReal) = valueD (X b) (Y b) (tail q) :=
  congrArg₂ (fun u v : EReal => u - v) (h.tail_y b q) (h.tail_valueN b q)

end Cert.ReferenceIdeal.Near

end
-- ==== Proof.Results.lean ====
/-
  The reference's results: the differences and neighbours laid out, the clipped quotients standardised, the labels.
-/
module

public import proofs.«01_k».proof.Proof.Lookup
public import proofs.«01_k».proof.Proof.Standard

@[expose] public section

set_option maxRecDepth 16384

noncomputable section

namespace Cert.ReferenceIdeal.Near

open Idealize.ShloMosaic Idealize.ShloMosaic.TcCoe Idealize.SL.Sem
open Cert.ReferenceIdeal Cert.ReferenceIdeal.Gen Cert.ReferenceIdeal.Value Cert.Near

/-- The context's numbers followed by the targets' are the numbers of all points. -/
theorem joined (g : Fin 8 → Fin 2048 → EReal) (u v : FVec Ideal S8x1024x1 .f32) (hu : ∀ b q, (u (ix3 b q 0) : EReal) = g b (head q))
    (hv : ∀ b q, (v (ix3 b q 0) : EReal) = g b (tail q)) :
    concatenate S8x2048x1 1 [⟨S8x1024x1, u⟩, ⟨S8x1024x1, v⟩] concatenates_S8x1024x1_S8x1024x1_S8x2048x1_d1 = (lay g : FVec Ideal S8x2048x1 .f32) := by
  funext i
  obtain ⟨b, p, rfl⟩ : ∃ b p, i = ix3 b p 0 := ⟨i 0, i 1, pts_eq i⟩
  have hp := p.isLt
  by_cases h : p.val < 1024
  · refine (concatenate_pair_apply_left (t := S8x2048x1) (1 : Fin 3) u v _ _ rfl (ix3 b ⟨p.val, h⟩ 0) fun a => ?_).trans (hu b ⟨p.val, h⟩)
    fin_cases a <;> rfl
  · refine (concatenate_pair_apply_right (t := S8x2048x1) (1 : Fin 3) u v _ _ rfl rfl (ix3 b ⟨p.val - 1024, by omega⟩ 0) (fun a ha => ?_) ?_).trans
      ((hv b ⟨p.val - 1024, by omega⟩).trans (congrArg (g b) (Fin.ext (by show 1024 + (p.val - 1024) = p.val; omega))))
    · fin_cases a
      · rfl
      · exact absurd rfl ha
      · rfl
    · show p.val - 1024 + 1024 = p.val; omega

/-- The difference quotient, with the root of the one square. -/
theorem slope_at (y x : FVec Ideal S8x1024x1 .f32) (b : Fin 8) (q : Fin 1024) :
    (Host.divf y (addf (broadcastInDim S8x1024x1 ![] bcast_S_S8x1024x1 (constant S_ .f32 0x360637BD#32)) (Host.sqrt (broadcastInDim S8x1024x1 ![0, 1]
      bcast_S8x1024_S8x1024x1_0_1 (Host.reduceAdd (mulf x x) (constant S_ .f32 0x00000000#32) reducesTo_S8x1024x1_S8x1024_d2 h_S_)))) (ix3 b q 0) : EReal)
      = slope (y (ix3 b q 0)) (x (ix3 b q 0)) := by
  have e : (Host.reduceAdd (mulf x x) (constant S_ .f32 0x00000000#32) reducesTo_S8x1024x1_S8x1024_d2 h_S_ (ix2 b q) : EReal)
      = x (ix3 b q 0) * x (ix3 b q 0) := by
    refine (Ideal.hostReduceAdd_r3_a2 reducesTo_S8x1024x1_S8x1024_d2 (mulf x x) (Ideal.ofBits .f32 0x00000000#32) (ix2 b q)).trans ?_
    rw [Ideal.ofBits_zero_f32, zero_add, Fin.sum_univ_one]
    rfl
  have root : ∀ s u v : EReal, u = v → (FloatOps.hostDivf (F := Ideal) (φ := .f32) s (Ideal.ofBits .f32 0x360637BD#32 + FloatOps.hostUnary (F := Ideal) (φ := .f32) .sqrt u : EReal) : EReal)
      = Ideal.div s (Ideal.ofBits .f32 0x360637BD#32 + Ideal.sqrt v) := fun s u v e => by rw [e]; rfl
  exact root _ _ _ ((congrArg (Host.reduceAdd (mulf x x) (constant S_ .f32 0x00000000#32) reducesTo_S8x1024x1_S8x1024_d2 h_S_)
    (funext fun a => by fin_cases a <;> rfl)).trans e)

/-- The clipped quotient. -/
theorem clip_at (v : FVec Ideal S8x2048x1 .f32) (i : S8x2048x1.Idx) :
    (select (cmpf .ogt (Host.absf v) (broadcastInDim S8x2048x1 ![] bcast_S_S8x2048x1 (constant S_ .f32 0x43480000#32)))
      (broadcastInDim S8x2048x1 ![] bcast_S_S8x2048x1 (id (constant (F := Ideal) S_ .f32 0x00000000#32) : FVec Ideal S_ .f32)) v i : EReal) = clip (v i) := by
  show (if BitVec.ofBool (decide (Ideal.ofBits .f32 0x43480000#32 < max (v i : EReal) (-v i))) = 1#1
    then (Ideal.ofBits .f32 0x00000000#32 : EReal) else v i) = _
  rw [Ideal.ofBits_zero_f32]
  unfold clip
  by_cases hq : Ideal.ofBits .f32 0x43480000#32 < max (v i : EReal) (-v i) <;> simp [hq]

/-- Whether one number is another. -/
theorem same_at (u v : FVec Ideal S8x2048x1 .f32) (i : S8x2048x1.Idx) :
    (uitofp (F := Ideal) .f32 (cmpf .oeq u (select (cmpf .une v v) (broadcastInDim S8x2048x1 ![] bcast_S_S8x2048x1 (id (constant (F := Ideal) S_ .f32 0x461C4000#32) : FVec Ideal S_ .f32)) v)) i : EReal)
      = if (u i : EReal) = v i then 1 else 0 := by
  have h1 : FloatOps.cmpf (F := Ideal) (φ := .f32) .une (v i) (v i) = 0#1 := by
    show BitVec.ofBool (decide ((v i : EReal) ≠ v i)) = _; simp
  show (((FloatOps.cmpf (F := Ideal) (φ := .f32) .oeq (u i) (Scalar.select (FloatOps.cmpf (F := Ideal) (φ := .f32) .une (v i) (v i)) _ (v i))).toNat : ℝ) : EReal) = _
  rw [h1]
  show (((BitVec.ofBool (decide ((u i : EReal) = v i))).toNat : ℝ) : EReal) = _
  by_cases h : (u i : EReal) = v i <;> simp [h]

/-- The sum of all the numbers. -/
theorem sum_at (D : FVec Ideal S8x2048x1 .f32) (j : S1.Idx) :
    (Host.reduceAdd D (constant S_ .f32 0x00000000#32) reducesTo_S8x2048x1_S1_d0_1 h_S_ j : EReal) = ∑ i, (D i : EReal) := by
  refine (Ideal.hostReduceAdd_total reducesTo_S8x2048x1_S1_d0_1 (by decide) D (Ideal.ofBits .f32 0x00000000#32) j).trans ?_
  rw [Ideal.ofBits_zero_f32, zero_add]

/-- Their mean. -/
theorem mean_at (D : FVec Ideal S8x2048x1 .f32) (j : S1x1x1.Idx) :
    (Host.divf (broadcastInDim S1x1x1 ![2] bcast_S1_S1x1x1_2 (Host.reduceAdd D (constant S_ .f32 0x00000000#32) reducesTo_S8x2048x1_S1_d0_1 h_S_))
      (broadcastInDim S1x1x1 ![] bcast_S_S1x1x1 (constant S_ .f32 0x46800000#32)) j : EReal) = mean (fun i => (D i : EReal)) :=
  congrArg (fun s : EReal => Ideal.div s (Ideal.ofBits .f32 0x46800000#32)) (sum_at D _)

variable {V : Valuation τ sig (Elt Ideal)} {X Y : Fin 8 → Fin 2048 → EReal}

/-- The numbers less their mean. -/
def off (D : FVec Ideal S8x2048x1 .f32) : FVec Ideal S8x2048x1 .f32 :=
  subf D (broadcastInDim S8x2048x1 ![0, 1, 2] bcast_S1x1x1_S8x2048x1_0_1_2 (Host.divf (broadcastInDim S1x1x1 ![2] bcast_S1_S1x1x1_2
    (Host.reduceAdd D (constant S_ .f32 0x00000000#32) reducesTo_S8x2048x1_S1_d0_1 h_S_)) (broadcastInDim S1x1x1 ![] bcast_S_S1x1x1 (constant S_ .f32 0x46800000#32))))

/-- Entry by entry, the number less the mean. -/
theorem off_at (D : FVec Ideal S8x2048x1 .f32) (i : S8x2048x1.Idx) : (off D i : EReal) = (D i : EReal) - mean (fun i => (D i : EReal)) :=
  congrArg (fun s : EReal => (D i : EReal) - s) (mean_at D _)

/-- How many numbers there are. -/
def count : FVec Ideal S_ .f32 := subf (constant S_ .f32 0x46800000#32) (sitofp .f32 (constantI S_ 32 0#32))

/-- There are 16384 of them. -/
theorem count_at (j : S_.Idx) : (count j : EReal) = Ideal.ofBits .f32 0x46800000#32 := by
  show (Ideal.ofBits .f32 0x46800000#32 : EReal) - (((0#32 : BitVec 32).toInt : ℝ) : EReal) = _
  simp

/-- That is more than none. -/
theorem count_pos : (0 : EReal) < Ideal.ofBits .f32 0x46800000#32 := by
  have e : Ideal.ofBits .f32 0x46800000#32 = ((16384 : ℝ) : EReal) := by
    simp [Ideal.ofBits, Ideal.ieee, -EReal.coe_mul]; norm_num
  rw [e]
  exact EReal.coe_pos.2 (by norm_num)

/-- The mean square of the numbers less their mean, when there are any. -/
theorem spread_at (D : FVec Ideal S8x2048x1 .f32) (j : S1x1x1.Idx) :
    (select (broadcastInDim S1x1x1 ![] bcast_S_S1x1x1 (cmpf .ogt count (constant S_ .f32 0x00000000#32)))
      (Host.divf (broadcastInDim S1x1x1 ![2] bcast_S1_S1x1x1_2 (Host.reduceAdd (mulf (off D) (off D)) (constant S_ .f32 0x00000000#32)
        reducesTo_S8x2048x1_S1_d0_1 h_S_)) (broadcastInDim S1x1x1 ![] bcast_S_S1x1x1 count))
      (broadcastInDim S1x1x1 ![] bcast_S_S1x1x1 (id (constant (F := Ideal) S_ .f32 0x7FC00000#32) : FVec Ideal S_ .f32)) j : EReal)
      = mean (squared fun i => (D i : EReal)) := by
  have hsum : (Host.reduceAdd (mulf (off D) (off D)) (constant S_ .f32 0x00000000#32) reducesTo_S8x2048x1_S1_d0_1 h_S_ (ix1 0) : EReal)
      = ∑ i, squared (fun i => (D i : EReal)) i :=
    (sum_at (mulf (off D) (off D)) _).trans (Finset.sum_congr rfl fun i _ => congrArg (fun d : EReal => d * d) (off_at D i))
  have hc : cmpf .ogt count (constant S_ .f32 0x00000000#32) (fun a => a.elim0) = 1#1 := by
    show BitVec.ofBool (decide (Ideal.ofBits .f32 0x00000000#32 < (count (fun a => a.elim0) : EReal))) = 1#1
    rw [count_at, Ideal.ofBits_zero_f32]
    simp [count_pos]
  have key : ∀ (k : BitVec 1) (s n z : EReal), k = 1#1 → s = ∑ i, squared (fun i => (D i : EReal)) i → n = Ideal.ofBits .f32 0x46800000#32 →
      Scalar.select k (Ideal.div s n) z = mean (squared fun i => (D i : EReal)) := fun k s n z hk hs hn => by
    rw [hk, hs, hn]; rfl
  refine key _ _ _ _ ?_ ?_ (count_at _)
  · exact (congrArg (cmpf .ogt count (constant S_ .f32 0x00000000#32)) (funext fun a => a.elim0)).trans hc
  · exact (congrArg (Host.reduceAdd (mulf (off D) (off D)) (constant S_ .f32 0x00000000#32) reducesTo_S8x2048x1_S1_d0_1 h_S_)
      (funext fun a => by fin_cases a; exact Subsingleton.elim (α := Fin 1) _ _)).trans hsum

/-- The numbers standardised, scaled and shifted. -/
def scaled (g b : FVec Ideal S1 .f32) (D : FVec Ideal S8x2048x1 .f32) : FVec Ideal S8x2048x1 .f32 :=
  addf (Host.divf (mulf (broadcastInDim S8x2048x1 ![0, 1, 2] bcast_S1x1x1_S8x2048x1_0_1_2 (broadcastInDim S1x1x1 ![2] bcast_S1_S1x1x1_2 g)) (off D))
    (broadcastInDim S8x2048x1 ![0, 1, 2] bcast_S1x1x1_S8x2048x1_0_1_2 (Host.sqrt (addf
      (select (broadcastInDim S1x1x1 ![] bcast_S_S1x1x1 (cmpf .ogt count (constant S_ .f32 0x00000000#32)))
        (Host.divf (broadcastInDim S1x1x1 ![2] bcast_S1_S1x1x1_2 (Host.reduceAdd (mulf (off D) (off D)) (constant S_ .f32 0x00000000#32)
          reducesTo_S8x2048x1_S1_d0_1 h_S_)) (broadcastInDim S1x1x1 ![] bcast_S_S1x1x1 count))
        (broadcastInDim S1x1x1 ![] bcast_S_S1x1x1 (id (constant (F := Ideal) S_ .f32 0x7FC00000#32) : FVec Ideal S_ .f32)))
      (broadcastInDim S1x1x1 ![] bcast_S_S1x1x1 (constant S_ .f32 0x3A83126F#32))))))
    (broadcastInDim S8x2048x1 ![0, 1, 2] bcast_S1x1x1_S8x2048x1_0_1_2 (broadcastInDim S1x1x1 ![2] bcast_S1_S1x1x1_2 b))

/-- Entry by entry it is the standardised number. -/
theorem scaled_at (g b : FVec Ideal S1 .f32) (D : FVec Ideal S8x2048x1 .f32) (i : S8x2048x1.Idx) :
    (scaled g b D i : EReal) = standard (g (ix1 0)) (b (ix1 0)) (fun i => (D i : EReal)) i := by
  have key : ∀ g' g b' b d d' w w' : EReal, g' = g → b' = b → d' = d → w' = w →
      (FloatOps.hostDivf (F := Ideal) (φ := .f32) (g' * d' : EReal) (FloatOps.hostUnary (F := Ideal) (φ := .f32) .sqrt (w' + Ideal.ofBits .f32 0x3A83126F#32 : EReal)) : EReal) + b'
        = Ideal.div (g * d) (Ideal.sqrt (w + Ideal.ofBits .f32 0x3A83126F#32)) + b := fun _ _ _ _ _ _ _ _ h1 h2 h3 h4 => by
    rw [h1, h2, h3, h4]; rfl
  exact key _ _ _ _ _ _ _ _ (congrArg g (funext fun a => by fin_cases a; exact Subsingleton.elim (α := Fin 1) _ _))
    (congrArg b (funext fun a => by fin_cases a; exact Subsingleton.elim (α := Fin 1) _ _)) (off_at D i) (spread_at D _)

variable {V : Valuation τ sig (Elt Ideal)} {X Y : Fin 8 → Fin 2048 → EReal} (h : Pool V X Y)
include h

/-- The difference quotients of all points. -/
theorem ratios : res_main_v64 V = (lay fun b => ratio (X b) (Y b) : FVec Ideal S8x2048x1 .f32) :=
  joined (fun b => ratio (X b) (Y b)) _ _
    (fun b q => (slope_at (res_main_v16 V) (res_main_v15 V) b q).trans (congrArg₂ slope (h.head_valueD b q) (h.head_placeD b q)))
    (fun b q => (slope_at (res_main_v56 V) (res_main_v55 V) b q).trans (congrArg₂ slope (h.tail_valueD b q) (h.tail_placeD b q)))

/-- The clipped difference quotients of all points. -/
theorem clippeds : res_main_v74 V = (lay fun b => clipped (X b) (Y b) : FVec Ideal S8x2048x1 .f32) :=
  funext fun i => (clip_at (res_main_v64 V) i).trans (congrArg clip (congrFun (ratios h) i))

/-- The labels of all points. -/
theorem marks : (uitofp (F := Ideal) .f32 (cmpf .oeq (res_main_v74 V) (select (cmpf .une (res_main_v64 V) (res_main_v64 V))
    (broadcastInDim S8x2048x1 ![] bcast_S_S8x2048x1 (id (constant (F := Ideal) S_ .f32 0x461C4000#32) : FVec Ideal S_ .f32)) (res_main_v64 V))) : FVec Ideal S8x2048x1 .f32)
      = (lay fun b => label (X b) (Y b) : FVec Ideal S8x2048x1 .f32) := by
  rw [clippeds h, ratios h]
  exact funext fun i => same_at _ _ i

/-- The reference's third result: beside each other, the clipped quotients standardised with the scale and the shift, and the labels. -/
theorem features : val2 V (Proc.devRef .tc main_v95) = concatenate S8x2048x2 2
    [⟨S8x2048x1, fun i => standard (V (Proc.devRef .tc main_arg10) (ix1 0)) (V (Proc.devRef .tc main_arg11) (ix1 0)) (lay fun b => clipped (X b) (Y b)) i⟩,
     ⟨S8x2048x1, lay fun b => label (X b) (Y b)⟩] concatenates_S8x2048x1_S8x2048x1_S8x2048x2_d2 := by
  have e : val2 V (Proc.devRef .tc main_v95) = concatenate S8x2048x2 2
      [⟨S8x2048x1, scaled (V (Proc.devRef .tc main_arg10)) (V (Proc.devRef .tc main_arg11)) (res_main_v74 V)⟩,
       ⟨S8x2048x1, uitofp (F := Ideal) .f32 (cmpf .oeq (res_main_v74 V) (select (cmpf .une (res_main_v64 V) (res_main_v64 V))
        (broadcastInDim S8x2048x1 ![] bcast_S_S8x2048x1 (id (constant (F := Ideal) S_ .f32 0x461C4000#32) : FVec Ideal S_ .f32)) (res_main_v64 V)))⟩]
      concatenates_S8x2048x1_S8x2048x1_S8x2048x2_d2 := val2_main_v95 V
  rw [e, marks h, clippeds h]
  exact congrArg (fun v : FVec Ideal S8x2048x1 .f32 => concatenate S8x2048x2 2 [⟨S8x2048x1, v⟩, ⟨S8x2048x1, lay fun b => label (X b) (Y b)⟩]
    concatenates_S8x2048x1_S8x2048x1_S8x2048x2_d2) (funext fun i => scaled_at _ _ _ i)

end Cert.ReferenceIdeal.Near

end
-- ==== Proof.Precondition.lean ====
/-
  What the precondition says: the pool is the context followed by the targets, in places and in values, and every place
  is a real number between -500 and 500.
-/
module

public import proofs.«01_k».proof.Pre_split_pool
public import proofs.«01_k».proof.Proof.Results

@[expose] public section

set_option maxRecDepth 16384

noncomputable section

namespace Cert.Near

open Idealize.ShloMosaic
open Cert.ReferenceIdeal.Near (head tail joined)

/-- The side conditions of the precondition's operations. -/
theorem pre_facts : Cert.Pre_split_pool.Facts where
  concatenates_S8x1024x1_S8x1024x1_S8x2048x1_d1 := by decide
  bcast_S_S8x2048x1 := by decide

/-- The context's numbers and then the targets'. -/
def both (u v : FVec Ideal ⟨3, ![8, 1024, 1]⟩ .f32) (b : Fin 8) (p : Fin 2048) : EReal :=
  if h : p.val < 1024 then u (ix3 b ⟨p.val, h⟩ 0) else v (ix3 b ⟨p.val - 1024, by omega⟩ 0)

/-- At a context point it is the context's number. -/
theorem both_head (u v : FVec Ideal ⟨3, ![8, 1024, 1]⟩ .f32) (b : Fin 8) (q : Fin 1024) : (u (ix3 b q 0) : EReal) = both u v b (head q) := by
  unfold both; rw [dif_pos (show (head q).val < 1024 from q.isLt)]; rfl

/-- At a target point it is the target's number. -/
theorem both_tail (u v : FVec Ideal ⟨3, ![8, 1024, 1]⟩ .f32) (b : Fin 8) (q : Fin 1024) : (v (ix3 b q 0) : EReal) = both u v b (tail q) := by
  unfold both; rw [dif_neg (show ¬ (tail q).val < 1024 by show ¬ 1024 + q.val < 1024; omega)]
  exact congrArg (fun k : Fin 1024 => (v (ix3 b k 0) : EReal)) (Fin.ext (by show q.val = 1024 + q.val - 1024; omega))

/-- A number that with its negative lies below 500 is real. -/
theorem small_of (z : EReal) (hz : max z (-z) < ((500 : ℝ) : EReal)) : ∃ x : ℝ, z = x ∧ |x| < 500 := by
  obtain ⟨h1, h2⟩ := max_lt_iff.1 hz
  induction z with
  | bot => simp at h2
  | top => simp at h1
  | coe x =>
    rw [← EReal.coe_neg] at h2
    exact ⟨x, rfl, abs_lt.2 ⟨by have := EReal.coe_lt_coe_iff.1 h2; linarith, EReal.coe_lt_coe_iff.1 h1⟩⟩

/-- The precondition, read out number by number. -/
theorem pre_reads [Cert.Pre_split_pool.Facts] (a0 a1 : FVec Ideal Pts .f32) (a2 a3 a4 a5 : FVec Ideal ⟨3, ![8, 1024, 1]⟩ .f32) (a6 a7 a8 : IVec ⟨0, ![]⟩ 32) (a9 : IVec ⟨0, ![]⟩ 1)
    (a10 a11 : FVec Ideal ⟨1, ![1]⟩ .f32)
    (h : Cert.Pre_split_pool.fn (F := Ideal) a0 a1 a2 a3 a4 a5 a6 a7 a8 a9 a10 a11 = fun _ => 1#1) :
    points a1 = both a4 a5 ∧ points a0 = both a2 a3 ∧ ∀ b, Small (points a1 b) := by
  have bits : ∀ u v : BitVec 1, u &&& v = 1#1 → u = 1#1 ∧ v = 1#1 := by decide
  have one : ∀ c : Bool, BitVec.ofBool c = 1#1 → c = true := by decide
  have cat : ∀ u v : FVec Ideal ⟨3, ![8, 1024, 1]⟩ .f32, _ := fun u v => joined (both u v) u v (both_head u v) (both_tail u v)
  have all : ∀ b p, (a1 (ix3 b p 0) : EReal) = both a4 a5 b p ∧ (a0 (ix3 b p 0) : EReal) = both a2 a3 b p
      ∧ max (a1 (ix3 b p 0) : EReal) (-(a1 (ix3 b p 0))) < Ideal.ofBits .f32 0x43FA0000#32 := fun b p => by
    obtain ⟨h12, h3⟩ := bits _ _ (congrFun h (ix3 b p 0))
    obtain ⟨h1, h2⟩ := bits _ _ h12
    have e1 := of_decide_eq_true (one _ h1)
    have e2 := of_decide_eq_true (one _ h2)
    have e3 := of_decide_eq_true (one _ h3)
    exact ⟨e1.trans (congrFun (cat a4 a5) (ix3 b p 0)), e2.trans (congrFun (cat a2 a3) (ix3 b p 0)), e3⟩
  refine ⟨funext fun b => funext fun p => (all b p).1, funext fun b => funext fun p => (all b p).2.1, fun b p => ?_⟩
  have hp := (all b p).2.2
  rw [bound_eq] at hp
  show ∃ x : ℝ, (a1 (ix3 b p 0) : EReal) = x ∧ |x| < 500
  exact small_of _ hp

end Cert.Near

end
-- ==== Proof.lean ====
/-
  The claims assembled. Each program runs, leaves its arguments unchanged and every counter at zero; and under the
  precondition that the pool is the context followed by the targets, with places below 500 in magnitude, the kernel and
  the reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ends
public import proofs.«01_k».proof.Proof.Precondition
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Near
open Cert.KernelIdeal.Near (places values)
open Cert.ReferenceIdeal.Near (Pool joined)
open Idealize.ShloMosaic.StableHlo (launchContents)

/-- The reference runs, leaves its arguments as they were, and every counter at zero. -/
theorem reference_quiescent : quiescent_ReferenceIdeal := fun m g _ =>
  (θ_run _ _ _).mono (fun r h => ⟨fun c => (h c).2.2.2.2.2, sem_eq_zero_of_no_sems rfl r.2⟩) (Cert.ReferenceIdeal.Value.run m g)

/-- Under the precondition the kernel's arguments are a pool. -/
theorem places_small [Cert.Pre_split_pool.Facts] (m : (ℓ : Loc Cert.KernelIdeal.nD Cert.KernelIdeal.τ Cert.KernelIdeal.sig) → Buf (Elt Ideal) ℓ)
    (hm : Pre_KernelIdeal_split_pool m) (c : Dev Cert.KernelIdeal.nD) (b : Fin 8) : Small (places m c b) :=
  (pre_reads _ _ _ _ _ _ _ _ _ _ _ _ (hm c)).2.2 b

/-- The reference, started on the kernel's arguments, is started on the kernel's pool. -/
theorem reference_pool [Cert.Pre_split_pool.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hm : Pre_KernelIdeal_split_pool m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Pool (launchContents m' c) (places m c) (values m c) := by
  obtain ⟨hx, hy, hs⟩ := pre_reads _ _ _ _ _ _ _ _ _ _ _ _ (hm c)
  have hx' : ∀ b p, places m c b p = _ := fun b p => congrFun (congrFun hx b) p
  have hy' : ∀ b p, values m c b p = _ := fun b p => congrFun (congrFun hy b) p
  exact
    { x := fun b p => congrFun h1 (ix3 b p 0)
      y := fun b p => congrFun h0 (ix3 b p 0)
      head_x := fun b q => (congrFun h4 (ix3 b q 0)).trans ((both_head _ _ b q).trans (hx' b _).symm)
      head_y := fun b q => (congrFun h2 (ix3 b q 0)).trans ((both_head _ _ b q).trans (hy' b _).symm)
      tail_x := fun b q => (congrFun h5 (ix3 b q 0)).trans ((both_tail _ _ b q).trans (hx' b _).symm)
      tail_y := fun b q => (congrFun h3 (ix3 b q 0)).trans ((both_tail _ _ b q).trans (hy' b _).symm)
      small := hs }

open Cert.KernelIdeal (main_v5 main_v6 main_v7 main_v8 main_v16 main_arg0 main_arg1 main_arg2 main_arg3 main_arg4 main_arg5 main_arg6 main_arg7 main_arg8
  main_arg9 main_arg10 main_arg11) in
open Cert.KernelIdeal.Gen in
/-- Under the precondition the kernel and the reference end with equal results. -/
theorem agree [Cert.Pre_split_pool.Facts] : algebraic_KernelIdeal_ReferenceIdeal_pre_split_pool := fun m g m' g' hm ha => by
  have hs := places_small m hm
  have hp : ∀ c, Pool (launchContents m' c) (places m c) (values m c) := fun c => by
    obtain ⟨h0, h1, h2, h3, h4, h5, -⟩ := ha c
    exact reference_pool m m' hm c h0 h1 h2 h3 h4 h5
  refine ⟨fun c => W5 m g c (Proc.devRef .tc main_v5), fun c => W5 m g c (Proc.devRef .tc main_v6),
    fun c => W5 m g c (Proc.devRef .tc main_v16), fun c => W5 m g c (Proc.devRef .tc main_v7),
    fun c => W5 m g c (Proc.devRef .tc main_v8), ?_, ?_⟩
  · refine (θ_run _ _ _).mono (fun r h c => ?_) (Cert.KernelIdeal.Near.ends m g)
    exact ⟨h c _ (mem_uc main_v5 (by decide)), h c _ (mem_uc main_v6 (by decide)), h c _ (mem_uc main_v16 (by decide)),
      h c _ (mem_uc main_v7 (by decide)), h c _ (mem_uc main_v8 (by decide)),
      (h c _ (mem_uc main_arg0 (by decide))).trans (W5_main_arg0 m g c), (h c _ (mem_uc main_arg1 (by decide))).trans (W5_main_arg1 m g c),
      (h c _ (mem_uc main_arg2 (by decide))).trans (W5_main_arg2 m g c), (h c _ (mem_uc main_arg3 (by decide))).trans (W5_main_arg3 m g c),
      (h c _ (mem_uc main_arg4 (by decide))).trans (W5_main_arg4 m g c), (h c _ (mem_uc main_arg5 (by decide))).trans (W5_main_arg5 m g c),
      (h c _ (mem_uc main_arg6 (by decide))).trans (W5_main_arg6 m g c), (h c _ (mem_uc main_arg7 (by decide))).trans (W5_main_arg7 m g c),
      (h c _ (mem_uc main_arg8 (by decide))).trans (W5_main_arg8 m g c), (h c _ (mem_uc main_arg9 (by decide))).trans (W5_main_arg9 m g c),
      (h c _ (mem_uc main_arg10 (by decide))).trans (W5_main_arg10 m g c), (h c _ (mem_uc main_arg11 (by decide))).trans (W5_main_arg11 m g c)⟩
  · refine (θ_run _ _ _).mono (fun r h c => ?_) (Cert.ReferenceIdeal.Value.run m' g')
    obtain ⟨e0, e1, e2, e3, e4, hargs⟩ := h c
    refine ⟨e0.trans ?_, e1.trans ?_, e2.trans ?_, e3.trans ?_, e4.trans ?_, hargs⟩
    · exact (joined _ _ _ (hp c).head_valueD (hp c).tail_valueD).trans (Cert.KernelIdeal.Near.end_valueD g c (hs c)).symm
    · exact (joined _ _ _ (hp c).head_placeD (hp c).tail_placeD).trans (Cert.KernelIdeal.Near.end_placeD g c (hs c)).symm
    · obtain ⟨-, -, -, -, -, -, -, -, -, -, h10, h11⟩ := ha c
      refine (Cert.ReferenceIdeal.Value.val2_main_v95 (launchContents m' c)).symm.trans ((Cert.ReferenceIdeal.Near.features (hp c)).trans ?_)
      refine Eq.trans ?_ (Cert.KernelIdeal.Near.end_features g c (hs c)).symm
      rw [← h10, ← h11]
    · exact (joined _ _ _ (hp c).head_placeN (hp c).tail_placeN).trans (Cert.KernelIdeal.Near.end_placeN g c (hs c)).symm
    · exact (joined _ _ _ (hp c).head_valueN (hp c).tail_valueN).trans (Cert.KernelIdeal.Near.end_valueN g c (hs c)).symm

/-- All the claims: the frames, the kernel's reading over the extended reals, and its agreement with the reference. -/
theorem claim : Cert.Claim := ⟨Cert.Kernel.Gen.facts, Cert.KernelIdeal.Gen.facts, Cert.ReferenceIdeal.Gen.facts, pre_facts,
  fun m g _ => Cert.Kernel.Gen.frame m g, fun m g _ => Cert.KernelIdeal.Gen.frame m g, fun m g _ => Cert.KernelIdeal.Gen.frame m g,
  reference_quiescent, fun m g _ => reference_quiescent m g trivial, trivial, @agree pre_facts⟩

end Cert.Proof

end
